-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "inv_sqrt_2048" .f32 0x3CB504F3#32 (((Real.sqrt 2048)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "inv_sqrt_128" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v43)) (v1 : (c : Dev Cert.Kernel3Ideal.nD) → Buf (Elt Ideal) ((c.tc : Thread Cert.Kernel3Ideal.nD Cert.Kernel3Ideal.τ).loc Cert.Kernel3Ideal.main_v38)) (v2 : (c : Dev Cert.Kernel3Ideal.nD) → Buf (Elt Ideal) ((c.tc : Thread Cert.Kernel3Ideal.nD Cert.Kernel3Ideal.τ).loc Cert.Kernel3Ideal.main_v12)) (v3 : (c : Dev Cert.Kernel3Ideal.nD) → Buf (Elt Ideal) ((c.tc : Thread Cert.Kernel3Ideal.nD Cert.Kernel3Ideal.τ).loc Cert.Kernel3Ideal.main_v44)) (v4 : (c : Dev Cert.Kernel3Ideal.nD) → Buf (Elt Ideal) ((c.tc : Thread Cert.Kernel3Ideal.nD Cert.Kernel3Ideal.τ).loc Cert.Kernel3Ideal.main_v45)) (v5 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43) = v0 c
          ∧ r.2.mem ((c.tc : Thread Cert.Kernel3Ideal.nD Cert.Kernel3Ideal.τ).loc Cert.Kernel3Ideal.main_v38) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_v44) = v3 c
          ∧ r.2.mem ((c.tc : Thread Cert.Kernel3Ideal.nD Cert.Kernel3Ideal.τ).loc Cert.Kernel3Ideal.main_v45) = v4 c
          ∧ r.2.mem ((c.tc : Thread Cert.Kernel3Ideal.nD Cert.Kernel3Ideal.τ).loc Cert.Kernel3Ideal.main_v21) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v34) = v2 c
          ∧ r.2.mem ((c.tc : Thread Cert.Reference3Ideal.nD Cert.Reference3Ideal.τ).loc Cert.Reference3Ideal.main_v94) = v3 c
          ∧ r.2.mem ((c.tc : Thread Cert.Reference3Ideal.nD Cert.Reference3Ideal.τ).loc Cert.Reference3Ideal.main_v109) = v4 c
          ∧ r.2.mem ((c.tc : Thread Cert.Reference3Ideal.nD Cert.Reference3Ideal.τ).loc Cert.Reference3Ideal.main_v37) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S2x16384x2048 : Shape := ⟨3, ![2, 16384, 2048]⟩
abbrev S4x512x512 : Shape := ⟨3, ![4, 512, 512]⟩
abbrev S2048 : Shape := ⟨1, ![2048]⟩
abbrev S_ : Shape := ⟨0, ![]⟩

class Facts : Prop where
  bcast_S_S2x16384x2048 : S_.BroadcastsInDim S2x16384x2048 (![] : Fin 0 → Fin S2x16384x2048.rank)

variable [Facts]

def fn {F : FTy → Type} [FloatOps F] (main_arg0 : FVec F S2x16384x2048 .f32) (main_arg1 : FVec F S4x512x512 .f32) (main_arg2 : FVec F S2048 .f32) : IVec S2x16384x2048 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  main_v2
-- ==== Kernel.lean ====
abbrev S2x16384x16x128 : Shape := ⟨4, ![2, 16384, 16, 128]⟩
abbrev S2x16384x128 : Shape := ⟨3, ![2, 16384, 128]⟩
abbrev S2x16384x16 : Shape := ⟨3, ![2, 16384, 16]⟩
abbrev S2x64x256x16x128 : Shape := ⟨5, ![2, 64, 256, 16, 128]⟩
abbrev S2x64x16x256x128 : Shape := ⟨5, ![2, 64, 16, 256, 128]⟩
abbrev S2x64x256x16 : Shape := ⟨4, ![2, 64, 256, 16]⟩
abbrev S2x64x16x256 : Shape := ⟨4, ![2, 64, 16, 256]⟩
abbrev S2x64x4096x128 : Shape := ⟨4, ![2, 64, 4096, 128]⟩
abbrev S2x16384x16384 : Shape := ⟨3, ![2, 16384, 16384]⟩
abbrev S1x1024x128 : Shape := ⟨3, ![1, 1024, 128]⟩
abbrev S1x1x4096x128 : Shape := ⟨4, ![1, 1, 4096, 128]⟩
abbrev S1x1x16x256 : Shape := ⟨4, ![1, 1, 16, 256]⟩
abbrev S1x1024x256 : Shape := ⟨3, ![1, 1024, 256]⟩
abbrev S256x4096 : Shape := ⟨2, ![256, 4096]⟩
abbrev S16x256 : Shape := ⟨2, ![16, 256]⟩
abbrev S1x256x128 : Shape := ⟨3, ![1, 256, 128]⟩
abbrev S256x128 : Shape := ⟨2, ![256, 128]⟩
abbrev S4096x128 : Shape := ⟨2, ![4096, 128]⟩
abbrev S32x256 : Shape := ⟨2, ![32, 256]⟩
abbrev S1x256 : Shape := ⟨2, ![1, 256]⟩
abbrev S1x32x256 : Shape := ⟨3, ![1, 32, 256]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S2x16384x16x128, .f32⟩
  | .hbm, ⟨1, _⟩ => ⟨S2x16384x128, .f32⟩
  | .hbm, ⟨2, _⟩ => ⟨S2x16384x16, .f32⟩
  | .hbm, ⟨3, _⟩ => ⟨S2x16384x16x128, .bf16⟩
  | .hbm, ⟨4, _⟩ => ⟨S2x64x256x16x128, .bf16⟩
  | .hbm, ⟨5, _⟩ => ⟨S2x64x16x256x128, .bf16⟩
  | .hbm, ⟨6, _⟩ => ⟨S2x64x256x16, .f32⟩
  | .hbm, ⟨7, _⟩ => ⟨S2x64x16x256, .f32⟩
  | .hbm, ⟨8, _⟩ => ⟨S2x16384x128, .bf16⟩
  | .hbm, ⟨9, _⟩ => ⟨S2x64x4096x128, .bf16⟩
  | .hbm, ⟨10, _⟩ => ⟨S2x16384x16384, .f32⟩
  | .hbm, ⟨11, _⟩ => ⟨S2x16384x16384, .i32⟩
  | .hbm, ⟨12, _⟩ => ⟨S2x16384x16384, .i32⟩
  | .hbm, ⟨13, _⟩ => ⟨S2x16384x16384, .i1⟩
  | .hbm, ⟨14, _⟩ => ⟨S_, .f32⟩
  | .hbm, ⟨15, _⟩ => ⟨S_, .f32⟩
  | .hbm, ⟨16, _⟩ => ⟨S2x16384x16384, .f32⟩
  | .hbm, ⟨17, _⟩ => ⟨S2x16384x16384, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x16x256, .f32⟩
  | .local _ .vmem, ⟨5, _⟩ => ⟨S1x1x16x256, .f32⟩
  | .local _ .vmem, ⟨6, _⟩ => ⟨S1x1024x256, .f32⟩
  | .local _ .vmem, ⟨7, _⟩ => ⟨S1x1024x256, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | _, _ => ⟨S2x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 64, 16], ![false, false, false]⟩

def k0_cond1 (i : grid0.Coords) : BitVec 1 :=
  let arg2 : BitVec 32 := BitVec.ofNat 32 (i 2).val
  let c1024_i32 : BitVec 32 := 1024#32
  let v0 : BitVec 32 := Scalar.muli arg2 c1024_i32
  let arg1 : BitVec 32 := BitVec.ofNat 32 (i 1).val
  let c256_i32 : BitVec 32 := 256#32
  let v1 : BitVec 32 := Scalar.muli arg1 c256_i32
  let c256_i32_0 : BitVec 32 := 256#32
  let v2 : BitVec 32 := Scalar.addi v1 c256_i32_0
  let c1_i32 : BitVec 32 := 1#32
  let v3 : BitVec 32 := Scalar.subi v2 c1_i32
  let v4 : BitVec 1 := Scalar.cmpi .sle v0 v3
  let v5 : BitVec 32 := Scalar.extui v4
  let c0_i32 : BitVec 32 := 0#32
  let v6 : BitVec 1 := Scalar.cmpi .ne v5 c0_i32
  v6

def k0_cond2 (i : grid0.Coords) : BitVec 1 :=
  let arg2 : BitVec 32 := BitVec.ofNat 32 (i 2).val
  let c1024_i32 : BitVec 32 := 1024#32
  let v0 : BitVec 32 := Scalar.muli arg2 c1024_i32
  let arg1 : BitVec 32 := BitVec.ofNat 32 (i 1).val
  let c256_i32 : BitVec 32 := 256#32
  let v1 : BitVec 32 := Scalar.muli arg1 c256_i32
  let c256_i32_0 : BitVec 32 := 256#32
  let v2 : BitVec 32 := Scalar.addi v1 c256_i32_0
  let c1_i32 : BitVec 32 := 1#32
  let v3 : BitVec 32 := Scalar.subi v2 c1_i32
  let v4 : BitVec 1 := Scalar.cmpi .sle v0 v3
  let v_true : BitVec 1 := 1#1
  let v7 : BitVec 1 := Scalar.xori v4 v_true
  let v8 : BitVec 32 := Scalar.extui v7
  let c0_i32_1 : BitVec 32 := 0#32
  let v9 : BitVec 1 := Scalar.cmpi .ne v8 c0_i32_1
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "inv_sqrt_2048" => some (((Real.sqrt 2048)⁻¹ : ℝ) : EReal)
  | _ => none
-- ==== ReferenceIdeal.lean ====
abbrev S2x16384x16x128 : Shape := ⟨4, ![2, 16384, 16, 128]⟩
abbrev S2x16384x128 : Shape := ⟨3, ![2, 16384, 128]⟩
abbrev S2x16384x16 : Shape := ⟨3, ![2, 16384, 16]⟩
abbrev S_ : Shape := ⟨0, ![]⟩
abbrev S2x16384x16x16384 : Shape := ⟨4, ![2, 16384, 16, 16384]⟩
abbrev S2x16384x16384 : Shape := ⟨3, ![2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x16x128, .f32⟩
  | .hbm, ⟨1, _⟩ => ⟨S2x16384x128, .f32⟩
  | .hbm, ⟨2, _⟩ => ⟨S2x16384x16, .f32⟩
  | .hbm, ⟨3, _⟩ => ⟨S_, .f32⟩
  | .hbm, ⟨4, _⟩ => ⟨S2x16384x16, .f32⟩
  | .hbm, ⟨5, _⟩ => ⟨S2x16384x16, .f32⟩
  | .hbm, ⟨6, _⟩ => ⟨S2x16384x16x16384, .f32⟩
  | .hbm, ⟨7, _⟩ => ⟨S_, .f32⟩
  | .hbm, ⟨8, _⟩ => ⟨S_, .f32⟩
  | .hbm, ⟨9, _⟩ => ⟨S2x16384x16x16384, .f32⟩
  | .hbm, ⟨10, _⟩ => ⟨S2x16384x16x16384, .f32⟩
  | .hbm, ⟨11, _⟩ => ⟨S_, .f32⟩
  | .hbm, ⟨12, _⟩ => ⟨S2x16384x16x16384, .f32⟩
  | .hbm, ⟨13, _⟩ => ⟨S2x16384x16x16384, .f32⟩
  | .hbm, ⟨14, _⟩ => ⟨S2x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x16384x16384, .i1⟩
  | .hbm, ⟨22, _⟩ => ⟨S_, .f32⟩
  | .hbm, ⟨23, _⟩ => ⟨S_, .f32⟩
  | .hbm, ⟨24, _⟩ => ⟨S2x16384x16384, .i1⟩
  | .hbm, ⟨25, _⟩ => ⟨S2x16384x16384, .f32⟩
  | .hbm, ⟨26, _⟩ => ⟨S2x16384x16384, .f32⟩
  | .hbm, ⟨27, _⟩ => ⟨S2x16384x16384, .f32⟩
  | _, _ => ⟨S2x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x256x2048 : Shape := ⟨3, ![2, 256, 2048]⟩
abbrev S6x2048 : Shape := ⟨2, ![6, 2048]⟩
abbrev S2048 : Shape := ⟨1, ![2048]⟩
abbrev S2048x2048 : Shape := ⟨2, ![2048, 2048]⟩
abbrev S2048x512 : Shape := ⟨2, ![2048, 512]⟩
abbrev S2048x1024 : Shape := ⟨2, ![2048, 1024]⟩
abbrev S512x2048 : Shape := ⟨2, ![512, 2048]⟩
abbrev S2048x11264 : Shape := ⟨2, ![2048, 11264]⟩
abbrev S5632x2048 : Shape := ⟨2, ![5632, 2048]⟩
abbrev S32768x2048 : Shape := ⟨2, ![32768, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S512x512 : Shape := ⟨2, ![512, 512]⟩
abbrev S32768x512 : Shape := ⟨2, ![32768, 512]⟩
abbrev S2x16384x512 : Shape := ⟨3, ![2, 16384, 512]⟩
abbrev S512x1024 : Shape := ⟨2, ![512, 1024]⟩
abbrev S2x256x512 : Shape := ⟨3, ![2, 256, 512]⟩
abbrev S1x512x512 : Shape := ⟨3, ![1, 512, 512]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S32768x5632 : Shape := ⟨2, ![32768, 5632]⟩
abbrev S512x5632 : Shape := ⟨2, ![512, 5632]⟩
abbrev S5632x512 : Shape := ⟨2, ![5632, 512]⟩

abbrev nBuf : Space → Nat
  | .hbm => 56
  | .vmem => 80
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S2x256x2048, .f32⟩
  | .hbm, ⟨3, _⟩ => ⟨S6x2048, .f32⟩
  | .hbm, ⟨4, _⟩ => ⟨S2048, .f32⟩
  | .hbm, ⟨5, _⟩ => ⟨S2048x2048, .f32⟩
  | .hbm, ⟨6, _⟩ => ⟨S2048x512, .f32⟩
  | .hbm, ⟨7, _⟩ => ⟨S2048x1024, .f32⟩
  | .hbm, ⟨8, _⟩ => ⟨S512x2048, .f32⟩
  | .hbm, ⟨9, _⟩ => ⟨S2048x11264, .f32⟩
  | .hbm, ⟨10, _⟩ => ⟨S5632x2048, .f32⟩
  | .hbm, ⟨11, _⟩ => ⟨S32768x2048, .f32⟩
  | .hbm, ⟨12, _⟩ => ⟨S512x2048, .f32⟩
  | .hbm, ⟨13, _⟩ => ⟨S1x2048, .f32⟩
  | .hbm, ⟨14, _⟩ => ⟨S512x2048, .bf16⟩
  | .hbm, ⟨15, _⟩ => ⟨S32768x2048, .f32⟩
  | .hbm, ⟨16, _⟩ => ⟨S2048x2048, .bf16⟩
  | .hbm, ⟨17, _⟩ => ⟨S32768x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32768x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S32768x2048, .bf16⟩
  | .hbm, ⟨26, _⟩ => ⟨S2048x512, .bf16⟩
  | .hbm, ⟨27, _⟩ => ⟨S32768x512, .bf16⟩
  | .hbm, ⟨28, _⟩ => ⟨S2x16384x512, .bf16⟩
  | .hbm, ⟨29, _⟩ => ⟨S2048x1024, .bf16⟩
  | .hbm, ⟨30, _⟩ => ⟨S512x1024, .bf16⟩
  | .hbm, ⟨31, _⟩ => ⟨S512x512, .bf16⟩
  | .hbm, ⟨32, _⟩ => ⟨S2x256x512, .bf16⟩
  | .hbm, ⟨33, _⟩ => ⟨S512x512, .bf16⟩
  | .hbm, ⟨34, _⟩ => ⟨S2x256x512, .bf16⟩
  | .hbm, ⟨35, _⟩ => ⟨S2x16384x512, .bf16⟩
  | .hbm, ⟨36, _⟩ => ⟨S32768x512, .bf16⟩
  | .hbm, ⟨37, _⟩ => ⟨S512x2048, .bf16⟩
  | .hbm, ⟨38, _⟩ => ⟨S32768x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S32768x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S32768x2048, .bf16⟩
  | .hbm, ⟨47, _⟩ => ⟨S2048x11264, .bf16⟩
  | .hbm, ⟨48, _⟩ => ⟨S32768x5632, .bf16⟩
  | .hbm, ⟨49, _⟩ => ⟨S5632x2048, .bf16⟩
  | .hbm, ⟨50, _⟩ => ⟨S32768x2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S32768x2048, .f32⟩
  | .hbm, ⟨55, _⟩ => ⟨S2x16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S256x2048, .bf16⟩
  | .local _ .vmem, ⟨22, _⟩ => ⟨S256x2048, .bf16⟩
  | .local _ .vmem, ⟨23, _⟩ => ⟨S512x2048, .bf16⟩
  | .local _ .vmem, ⟨24, _⟩ => ⟨S512x2048, .bf16⟩
  | .local _ .vmem, ⟨25, _⟩ => ⟨S2048x512, .bf16⟩
  | .local _ .vmem, ⟨26, _⟩ => ⟨S512x512, .bf16⟩
  | .local _ .vmem, ⟨27, _⟩ => ⟨S512x512, .bf16⟩
  | .local _ .vmem, ⟨28, _⟩ => ⟨S512x2048, .bf16⟩
  | .local _ .vmem, ⟨29, _⟩ => ⟨S2048x512, .bf16⟩
  | .local _ .vmem, ⟨30, _⟩ => ⟨S2048x512, .bf16⟩
  | .local _ .vmem, ⟨31, _⟩ => ⟨S512x512, .bf16⟩
  | .local _ .vmem, ⟨32, _⟩ => ⟨S512x512, .bf16⟩
  | .local _ .vmem, ⟨33, _⟩ => ⟨S1x512x512, .bf16⟩
  | .local _ .vmem, ⟨34, _⟩ => ⟨S1x512x512, .bf16⟩
  | .local _ .vmem, ⟨35, _⟩ => ⟨S1x256x512, .bf16⟩
  | .local _ .vmem, ⟨36, _⟩ => ⟨S1x256x512, .bf16⟩
  | .local _ .vmem, ⟨37, _⟩ => ⟨S1x256x512, .bf16⟩
  | .local _ .vmem, ⟨38, _⟩ => ⟨S1x256x512, .bf16⟩
  | .local _ .vmem, ⟨39, _⟩ => ⟨S1x512x512, .bf16⟩
  | .local _ .vmem, ⟨40, _⟩ => ⟨S1x512x512, .bf16⟩
  | .local _ .vmem, ⟨41, _⟩ => ⟨S512x512, .bf16⟩
  | .local _ .vmem, ⟨42, _⟩ => ⟨S512x512, .bf16⟩
  | .local _ .vmem, ⟨43, _⟩ => ⟨S512x512, .bf16⟩
  | .local _ .vmem, ⟨44, _⟩ => ⟨S512x512, .bf16⟩
  | .local _ .vmem, ⟨45, _⟩ => ⟨S512x512, .f32⟩
  | .local _ .vmem, ⟨46, _⟩ => ⟨S512x512, .f32⟩
  | .local _ .vmem, ⟨47, _⟩ => ⟨S256x2048, .f32⟩
  | .local _ .vmem, ⟨48, _⟩ => ⟨S256x2048, .f32⟩
  | .local _ .vmem, ⟨49, _⟩ => ⟨S1x2048, .f32⟩
  | .local _ .vmem, ⟨50, _⟩ => ⟨S256x2048, .f32⟩
  | .local _ .vmem, ⟨51, _⟩ => ⟨S256x2048, .f32⟩
  | .local _ .vmem, ⟨52, _⟩ => ⟨S256x2048, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S1x2048, .f32⟩
  | .local _ .vmem, ⟨57, _⟩ => ⟨S256x2048, .bf16⟩
  | .local _ .vmem, ⟨58, _⟩ => ⟨S256x2048, .bf16⟩
  | .local _ .vmem, ⟨59, _⟩ => ⟨S512x2048, .bf16⟩
  | .local _ .vmem, ⟨60, _⟩ => ⟨S512x2048, .bf16⟩
  | .local _ .vmem, ⟨61, _⟩ => ⟨S2048x512, .bf16⟩
  | .local _ .vmem, ⟨62, _⟩ => ⟨S2048x512, .bf16⟩
  | .local _ .vmem, ⟨63, _⟩ => ⟨S2048x512, .bf16⟩
  | .local _ .vmem, ⟨64, _⟩ => ⟨S2048x512, .bf16⟩
  | .local _ .vmem, ⟨65, _⟩ => ⟨S512x512, .bf16⟩
  | .local _ .vmem, ⟨66, _⟩ => ⟨S512x512, .bf16⟩
  | .local _ .vmem, ⟨67, _⟩ => ⟨S512x5632, .bf16⟩
  | .local _ .vmem, ⟨68, _⟩ => ⟨S512x5632, .bf16⟩
  | .local _ .vmem, ⟨69, _⟩ => ⟨S5632x512, .bf16⟩
  | .local _ .vmem, ⟨70, _⟩ => ⟨S5632x512, .bf16⟩
  | .local _ .vmem, ⟨71, _⟩ => ⟨S512x512, .f32⟩
  | .local _ .vmem, ⟨72, _⟩ => ⟨S512x512, .f32⟩
  | .local _ .vmem, ⟨73, _⟩ => ⟨S256x2048, .f32⟩
  | .local _ .vmem, ⟨74, _⟩ => ⟨S256x2048, .f32⟩
  | .local _ .vmem, ⟨75, _⟩ => ⟨S1x2048, .f32⟩
  | .local _ .vmem, ⟨76, _⟩ => ⟨S256x2048, .f32⟩
  | .local _ .vmem, ⟨77, _⟩ => ⟨S256x2048, .f32⟩
  | .local _ .vmem, ⟨78, _⟩ => ⟨S256x2048, .f32⟩
  | .local _ .vmem, ⟨79, _⟩ => ⟨S256x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc6_stg3_0 : Ref sig .tc := ⟨.vmem, 39, rfl⟩
abbrev cc6_stg3_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg2_1 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg2_1 : Ref sig .tc := ⟨.vmem, 64, rfl⟩
abbrev cc10_stg3_0 : Ref sig .tc := ⟨.vmem, 65, rfl⟩
abbrev cc10_stg3_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg1_1 : Ref sig .tc := ⟨.vmem, 70, rfl⟩
abbrev cc11_stg2_0 : Ref sig .tc := ⟨.vmem, 71, rfl⟩
abbrev cc11_stg2_1 : Ref sig .tc := ⟨.vmem, 72, rfl⟩
abbrev cc12_stg0_0 : Ref sig .tc := ⟨.vmem, 73, rfl⟩
abbrev cc12_stg0_1 : Ref sig .tc := ⟨.vmem, 74, rfl⟩
abbrev cc12_stg1_0 : Ref sig .tc := ⟨.vmem, 75, rfl⟩
abbrev cc12_stg2_0 : Ref sig .tc := ⟨.vmem, 76, rfl⟩
abbrev cc12_stg2_1 : Ref sig .tc := ⟨.vmem, 77, rfl⟩
abbrev cc12_stg3_0 : Ref sig .tc := ⟨.vmem, 78, rfl⟩
abbrev cc12_stg3_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc6_sem3_0 : DmaSem sig := 39
abbrev cc6_sem3_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem2_1 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem1_1 : DmaSem sig := 62
abbrev cc10_sem2_0 : DmaSem sig := 63
abbrev cc10_sem2_1 : DmaSem sig := 64
abbrev cc10_sem3_0 : DmaSem sig := 65
abbrev cc10_sem3_1 : DmaSem sig := 66
abbrev cc11_sem0_0 : DmaSem sig := 67
abbrev cc11_sem0_1 : DmaSem sig := 68
abbrev cc11_sem1_0 : DmaSem sig := 69
abbrev cc11_sem1_1 : DmaSem sig := 70
abbrev cc11_sem2_0 : DmaSem sig := 71
abbrev cc11_sem2_1 : DmaSem sig := 72
abbrev cc12_sem0_0 : DmaSem sig := 73
abbrev cc12_sem0_1 : DmaSem sig := 74
abbrev cc12_sem1_0 : DmaSem sig := 75
abbrev cc12_sem2_0 : DmaSem sig := 76
abbrev cc12_sem2_1 : DmaSem sig := 77
abbrev cc12_sem3_0 : DmaSem sig := 78
abbrev cc12_sem3_1 : DmaSem sig := 79

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![64, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S512x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 32], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x512x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x256x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x256x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x512x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![64, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![128], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x2048 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S256x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![128], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x2048 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S256x2048 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨2, ![64, 11], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S512x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S2048x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2048x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S512x512 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![64, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S512x5632 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S5632x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S512x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨1, ![128], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S256x2048 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x2048 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S256x2048 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S256x2048 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]
-- ==== Kernel2Ideal.lean ====
variable {F : FTy → Type} [FloatOps F] [Named F]
def κ : String → Option EReal := fun
  | "inv_sqrt_128" => some (((Real.sqrt 128)⁻¹ : ℝ) : EReal)
  | _ => none
-- ==== Reference2Ideal.lean ====
abbrev S2x16384x2048 : Shape := ⟨3, ![2, 16384, 2048]⟩
abbrev S2x256x2048 : Shape := ⟨3, ![2, 256, 2048]⟩
abbrev S6x2048 : Shape := ⟨2, ![6, 2048]⟩
abbrev S2048 : Shape := ⟨1, ![2048]⟩
abbrev S2048x2048 : Shape := ⟨2, ![2048, 2048]⟩
abbrev S2048x512 : Shape := ⟨2, ![2048, 512]⟩
abbrev S2048x1024 : Shape := ⟨2, ![2048, 1024]⟩
abbrev S512x2048 : Shape := ⟨2, ![512, 2048]⟩
abbrev S2048x11264 : Shape := ⟨2, ![2048, 11264]⟩
abbrev S5632x2048 : Shape := ⟨2, ![5632, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048 : Shape := ⟨2, ![1, 2048]⟩
abbrev S2x16384 : Shape := ⟨2, ![2, 16384]⟩
abbrev S2x16384x1 : Shape := ⟨3, ![2, 16384, 1]⟩
abbrev S2x16384x512 : Shape := ⟨3, ![2, 16384, 512]⟩
abbrev S2x16384x4x128 : Shape := ⟨4, ![2, 16384, 4, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x11264 : Shape := ⟨3, ![2, 16384, 11264]⟩
abbrev S2x16384x5632 : Shape := ⟨3, ![2, 16384, 5632]⟩

abbrev nBuf : Space → Nat
  | .hbm => 165
  | .vmem => 0
  | .smem => 0
  | _ => 0

abbrev hbmTy0_0 (i : Nat) : BufTy := match i % 128 with
  | 0 => ⟨S2x16384x2048, .f32⟩
  | 1 => ⟨S2x16384x2048, .f32⟩
  | 2 => ⟨S2x256x2048, .f32⟩
  | 3 => ⟨S6x2048, .f32⟩
  | 4 => ⟨S2048, .f32⟩
  | 5 => ⟨S2048x2048, .f32⟩
  | 6 => ⟨S2048x512, .f32⟩
  | 7 => ⟨S2048x1024, .f32⟩
  | 8 => ⟨S512x2048, .f32⟩
  | 9 => ⟨S2048x11264, .f32⟩
  | 10 => ⟨S5632x2048, .f32⟩
  | 11 => ⟨S2x256x2048, .f32⟩
  | 12 => ⟨S_, .f32⟩
  | 13 => ⟨S2x256, .f32⟩
  | 14 => ⟨S2x256x1, .f32⟩
  | 15 => ⟨S_, .f32⟩
  | 16 => ⟨S2x256x1, .f32⟩
  | 17 => ⟨S2x256x1, .f32⟩
  | 18 => ⟨S_, .f32⟩
  | 19 => ⟨S2x256x1, .f32⟩
  | 20 => ⟨S2x256x1, .f32⟩
  | 21 => ⟨S2x256x1, .f32⟩
  | 22 => ⟨S2x256x2048, .f32⟩
  | 23 => ⟨S2x256x2048, .f32⟩
  | 24 => ⟨S1x1x2048, .f32⟩
  | 25 => ⟨S2x256x2048, .f32⟩
  | 26 => ⟨S2x256x2048, .f32⟩
  | 27 => ⟨S2x16384x2048, .f32⟩
  | 28 => ⟨S1x2048, .f32⟩
  | 29 => ⟨S2048, .f32⟩
  | 30 => ⟨S2x16384x2048, .f32⟩
  | 31 => ⟨S_, .f32⟩
  | 32 => ⟨S2x16384, .f32⟩
  | 33 => ⟨S2x16384x1, .f32⟩
  | 34 => ⟨S_, .f32⟩
  | 35 => ⟨S2x16384x1, .f32⟩
  | 36 => ⟨S2x16384x1, .f32⟩
  | 37 => ⟨S_, .f32⟩
  | 38 => ⟨S2x16384x1, .f32⟩
  | 39 => ⟨S2x16384x1, .f32⟩
  | 40 => ⟨S2x16384x1, .f32⟩
  | 41 => ⟨S2x16384x2048, .f32⟩
  | 42 => ⟨S2x16384x2048, .f32⟩
  | 43 => ⟨S1x1x2048, .f32⟩
  | 44 => ⟨S2x16384x2048, .f32⟩
  | 45 => ⟨S2x16384x2048, .f32⟩
  | 46 => ⟨S2x16384x2048, .f32⟩
  | 47 => ⟨S1x2048, .f32⟩
  | 48 => ⟨S2048, .f32⟩
  | 49 => ⟨S2x16384x2048, .f32⟩
  | 50 => ⟨S_, .f32⟩
  | 51 => ⟨S2x16384, .f32⟩
  | 52 => ⟨S2x16384x1, .f32⟩
  | 53 => ⟨S_, .f32⟩
  | 54 => ⟨S2x16384x1, .f32⟩
  | 55 => ⟨S2x16384x1, .f32⟩
  | 56 => ⟨S_, .f32⟩
  | 57 => ⟨S2x16384x1, .f32⟩
  | 58 => ⟨S2x16384x1, .f32⟩
  | 59 => ⟨S2x16384x1, .f32⟩
  | 60 => ⟨S2x16384x2048, .f32⟩
  | 61 => ⟨S2x16384x2048, .f32⟩
  | 62 => ⟨S1x1x2048, .f32⟩
  | 63 => ⟨S2x16384x2048, .f32⟩
  | 64 => ⟨S2x16384x2048, .f32⟩
  | 65 => ⟨S2x16384x512, .f32⟩
  | 66 => ⟨S2x16384x4x128, .f32⟩
  | 67 => ⟨S2x256x1024, .f32⟩
  | 68 => ⟨S2x256x512, .f32⟩
  | 69 => ⟨S2x256x512, .f32⟩
  | 70 => ⟨S2x256x4x128, .f32⟩
  | 71 => ⟨S2x256x4x128, .f32⟩
  | 72 => ⟨S2x4x16384x256, .f32⟩
  | 73 => ⟨S_, .f32⟩
  | 74 => ⟨S_, .f32⟩
  | 75 => ⟨S2x4x16384x256, .f32⟩
  | 76 => ⟨S2x4x16384x256, .f32⟩
  | 77 => ⟨S_, .f32⟩
  | 78 => ⟨S2x4x16384, .f32⟩
  | 79 => ⟨S_, .f32⟩
  | 80 => ⟨S2x4x16384, .f32⟩
  | 81 => ⟨S2x4x16384, .f32⟩
  | 82 => ⟨S2x4x16384x1, .f32⟩
  | 83 => ⟨S2x4x16384x256, .f32⟩
  | 84 => ⟨S2x4x16384x256, .f32⟩
  | 85 => ⟨S2x4x16384x256, .f32⟩
  | 86 => ⟨S_, .f32⟩
  | 87 => ⟨S2x4x16384, .f32⟩
  | 88 => ⟨S2x4x16384x1, .f32⟩
  | 89 => ⟨S2x4x16384x256, .f32⟩
  | 90 => ⟨S2x4x16384x256, .f32⟩
  | 91 => ⟨S2x4x128x16384, .f32⟩
  | 92 => ⟨S2x16384x4x128, .f32⟩
  | 93 => ⟨S2x16384x512, .f32⟩
  | 94 => ⟨S2x16384x2048, .f32⟩
  | 95 => ⟨S1x2048, .f32⟩
  | 96 => ⟨S2048, .f32⟩
  | 97 => ⟨S2x16384x2048, .f32⟩
  | 98 => ⟨S_, .f32⟩
  | 99 => ⟨S2x16384, .f32⟩
  | 100 => ⟨S2x16384x1, .f32⟩
  | 101 => ⟨S_, .f32⟩
  | 102 => ⟨S2x16384x1, .f32⟩
  | 103 => ⟨S2x16384x1, .f32⟩
  | 104 => ⟨S_, .f32⟩
  | 105 => ⟨S2x16384x1, .f32⟩
  | 106 => ⟨S2x16384x1, .f32⟩
  | 107 => ⟨S2x16384x1, .f32⟩
  | 108 => ⟨S2x16384x2048, .f32⟩
  | 109 => ⟨S2x16384x2048, .f32⟩
  | 110 => ⟨S1x1x2048, .f32⟩
  | 111 => ⟨S2x16384x2048, .f32⟩
  | 112 => ⟨S2x16384x2048, .f32⟩
  | 113 => ⟨S2x16384x2048, .f32⟩
  | 114 => ⟨S1x2048, .f32⟩
  | 115 => ⟨S2048, .f32⟩
  | 116 => ⟨S2x16384x2048, .f32⟩
  | 117 => ⟨S_, .f32⟩
  | 118 => ⟨S2x16384, .f32⟩
  | 119 => ⟨S2x16384x1, .f32⟩
  | 120 => ⟨S_, .f32⟩
  | 121 => ⟨S2x16384x1, .f32⟩
  | 122 => ⟨S2x16384x1, .f32⟩
  | 123 => ⟨S_, .f32⟩
  | 124 => ⟨S2x16384x1, .f32⟩
  | 125 => ⟨S2x16384x1, .f32⟩
  | 126 => ⟨S2x16384x1, .f32⟩
  | 127 => ⟨S2x16384x2048, .f32⟩
  | _ => ⟨S2x16384x2048, .f32⟩

abbrev hbmTy0_1 (i : Nat) : BufTy := match i % 128 with
  | 0 => ⟨S2x16384x2048, .f32⟩
  | 1 => ⟨S1x1x2048, .f32⟩
  | 2 => ⟨S2x16384x2048, .f32⟩
  | 3 => ⟨S2x16384x2048, .f32⟩
  | 4 => ⟨S2x16384x11264, .f32⟩
  | 5 => ⟨S2x16384x5632, .f32⟩
  | 6 => ⟨S2x16384x5632, .f32⟩
  | 7 => ⟨S2x16384x5632, .f32⟩
  | 8 => ⟨S2x16384x5632, .f32⟩
  | 9 => ⟨S_, .f32⟩
  | 10 => ⟨S2x16384x5632, .f32⟩
  | 11 => ⟨S2x16384x5632, .f32⟩
  | 12 => ⟨S_, .f32⟩
  | 13 => ⟨S2x16384x5632, .f32⟩
  | 14 => ⟨S2x16384x5632, .f32⟩
  | 15 => ⟨S2x16384x5632, .f32⟩
  | 16 => ⟨S2x16384x5632, .f32⟩
  | 17 => ⟨S2x16384x2048, .f32⟩
  | 18 => ⟨S1x2048, .f32⟩
  | 19 => ⟨S2048, .f32⟩
  | 20 => ⟨S2x16384x2048, .f32⟩
  | 21 => ⟨S_, .f32⟩
  | 22 => ⟨S2x16384, .f32⟩
  | 23 => ⟨S2x16384x1, .f32⟩
  | 24 => ⟨S_, .f32⟩
  | 25 => ⟨S2x16384x1, .f32⟩
  | 26 => ⟨S2x16384x1, .f32⟩
  | 27 => ⟨S_, .f32⟩
  | 28 => ⟨S2x16384x1, .f32⟩
  | 29 => ⟨S2x16384x1, .f32⟩
  | 30 => ⟨S2x16384x1, .f32⟩
  | 31 => ⟨S2x16384x2048, .f32⟩
  | 32 => ⟨S2x16384x2048, .f32⟩
  | 33 => ⟨S1x1x2048, .f32⟩
  | 34 => ⟨S2x16384x2048, .f32⟩
  | 35 => ⟨S2x16384x2048, .f32⟩
  | 36 => ⟨S2x16384x2048, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_v91 : Ref sig .tc := ⟨.hbm, 119, rfl⟩
abbrev main_cst_16 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_call0_v0 : Ref sig .tc := ⟨.hbm, 135, rfl⟩
abbrev main_call0_v1 : Ref sig .tc := ⟨.hbm, 136, rfl⟩
abbrev main_call0_cst : Ref sig .tc := ⟨.hbm, 137, rfl⟩
abbrev main_call0_v2 : Ref sig .tc := ⟨.hbm, 138, rfl⟩
abbrev main_call0_v3 : Ref sig .tc := ⟨.hbm, 139, rfl⟩
abbrev main_call0_cst_0 : Ref sig .tc := ⟨.hbm, 140, rfl⟩
abbrev main_call0_v4 : Ref sig .tc := ⟨.hbm, 141, rfl⟩
abbrev main_call0_v5 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_18 : Ref sig .tc := ⟨.hbm, 149, rfl⟩
abbrev main_v111 : Ref sig .tc := ⟨.hbm, 150, rfl⟩
abbrev main_v112 : Ref sig .tc := ⟨.hbm, 151, rfl⟩
abbrev main_cst_19 : Ref sig .tc := ⟨.hbm, 152, rfl⟩
abbrev main_v113 : Ref sig .tc := ⟨.hbm, 153, rfl⟩
abbrev main_v114 : Ref sig .tc := ⟨.hbm, 154, rfl⟩
abbrev main_cst_20 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x16384 : Shape := ⟨2, ![2, 16384]⟩
abbrev S2048 : Shape := ⟨1, ![2048]⟩
abbrev S2048x5264 : Shape := ⟨2, ![2048, 5264]⟩
abbrev S32768x2048 : Shape := ⟨2, ![32768, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩
abbrev S32768x512 : Shape := ⟨2, ![32768, 512]⟩
abbrev S2x16384x512 : Shape := ⟨3, ![2, 16384, 512]⟩
abbrev S2048x128 : Shape := ⟨2, ![2048, 128]⟩
abbrev S32768x128 : Shape := ⟨2, ![32768, 128]⟩
abbrev S512x128 : Shape := ⟨2, ![512, 128]⟩
abbrev S2x16384x128 : Shape := ⟨3, ![2, 16384, 128]⟩
abbrev S2048x16 : Shape := ⟨2, ![2048, 16]⟩
abbrev S32768x16 : Shape := ⟨2, ![32768, 16]⟩
abbrev S512x16 : Shape := ⟨2, ![512, 16]⟩
abbrev S2x16384x16 : Shape := ⟨3, ![2, 16384, 16]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S2x16384x1 : Shape := ⟨3, ![2, 16384, 1]⟩
abbrev S1x256x2048 : Shape := ⟨3, ![1, 256, 2048]⟩
abbrev S1x256x1 : Shape := ⟨3, ![1, 256, 1]⟩
abbrev S256x128 : Shape := ⟨2, ![256, 128]⟩
abbrev S1x256x128 : Shape := ⟨3, ![1, 256, 128]⟩
abbrev S1x256x512 : Shape := ⟨3, ![1, 256, 512]⟩
abbrev S2x64x16x256x128 : Shape := ⟨5, ![2, 64, 16, 256, 128]⟩
abbrev S1x1x16x256x128 : Shape := ⟨5, ![1, 1, 16, 256, 128]⟩
abbrev S1x1x1x256x128 : Shape := ⟨5, ![1, 1, 1, 256, 128]⟩
abbrev S2x64x256x16x128 : Shape := ⟨5, ![2, 64, 256, 16, 128]⟩

abbrev nBuf : Space → Nat
  | .hbm => 54
  | .vmem => 65
  | .smem => 0
  | _ => 0

abbrev bufTy : (tb : Table) → Fin (tcTables nBuf tb) → BufTy
  | .hbm, ⟨0, _⟩ => ⟨S2x16384x2048, .f32⟩
  | .hbm, ⟨1, _⟩ => ⟨S2x16384, .i32⟩
  | .hbm, ⟨2, _⟩ => ⟨S2048, .f32⟩
  | .hbm, ⟨3, _⟩ => ⟨S2048x5264, .f32⟩
  | .hbm, ⟨4, _⟩ => ⟨S2048x5264, .bf16⟩
  | .hbm, ⟨5, _⟩ => ⟨S32768x2048, .f32⟩
  | .hbm, ⟨6, _⟩ => ⟨S1x2048, .f32⟩
  | .hbm, ⟨7, _⟩ => ⟨S32768x2048, .bf16⟩
  | .hbm, ⟨8, _⟩ => ⟨S2048x2048, .bf16⟩
  | .hbm, ⟨9, _⟩ => ⟨S32768x2048, .f32⟩
  | .hbm, ⟨10, _⟩ => ⟨S2x16384x2048, .f32⟩
  | .hbm, ⟨11, _⟩ => ⟨S2048x512, .bf16⟩
  | .hbm, ⟨12, _⟩ => ⟨S32768x512, .f32⟩
  | .hbm, ⟨13, _⟩ => ⟨S2x16384x512, .f32⟩
  | .hbm, ⟨14, _⟩ => ⟨S2048x512, .bf16⟩
  | .hbm, ⟨15, _⟩ => ⟨S32768x512, .f32⟩
  | .hbm, ⟨16, _⟩ => ⟨S2x16384x512, .f32⟩
  | .hbm, ⟨17, _⟩ => ⟨S2048x2048, .bf16⟩
  | .hbm, ⟨18, _⟩ => ⟨S32768x2048, .f32⟩
  | .hbm, ⟨19, _⟩ => ⟨S2x16384x2048, .f32⟩
  | .hbm, ⟨20, _⟩ => ⟨S2048x128, .bf16⟩
  | .hbm, ⟨21, _⟩ => ⟨S32768x128, .f32⟩
  | .hbm, ⟨22, _⟩ => ⟨S2x16384x128, .f32⟩
  | .hbm, ⟨23, _⟩ => ⟨S2048x16, .bf16⟩
  | .hbm, ⟨24, _⟩ => ⟨S32768x16, .f32⟩
  | .hbm, ⟨25, _⟩ => ⟨S2x16384x16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S1x16, .f32⟩
  | .hbm, ⟨41, _⟩ => ⟨S8x16, .f32⟩
  | .hbm, ⟨42, _⟩ => ⟨S128, .f32⟩
  | .hbm, ⟨43, _⟩ => ⟨S1x128, .f32⟩
  | .hbm, ⟨44, _⟩ => ⟨S2x16384x1, .i32⟩
  | .hbm, ⟨45, _⟩ => ⟨S2x16384x2048, .bf16⟩
  | .hbm, ⟨46, _⟩ => ⟨S2x16384x512, .f32⟩
  | .hbm, ⟨47, _⟩ => ⟨S2x64x16x256x128, .bf16⟩
  | .hbm, ⟨48, _⟩ => ⟨S2x16384x128, .bf16⟩
  | .hbm, ⟨49, _⟩ => ⟨S2x64x256x16x128, .bf16⟩
  | .hbm, ⟨50, _⟩ => ⟨S2x16384x2048, .bf16⟩
  | .hbm, ⟨51, _⟩ => ⟨S2x16384x2048, .f32⟩
  | .hbm, ⟨52, _⟩ => ⟨S2x16384x2048, .f32⟩
  | .hbm, ⟨53, _⟩ => ⟨S2x16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S512x2048, .bf16⟩
  | .local _ .vmem, ⟨12, _⟩ => ⟨S512x2048, .bf16⟩
  | .local _ .vmem, ⟨13, _⟩ => ⟨S2048x512, .bf16⟩
  | .local _ .vmem, ⟨14, _⟩ => ⟨S512x512, .f32⟩
  | .local _ .vmem, ⟨15, _⟩ => ⟨S512x512, .f32⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S512x512, .f32⟩
  | .local _ .vmem, ⟨20, _⟩ => ⟨S512x512, .f32⟩
  | .local _ .vmem, ⟨21, _⟩ => ⟨S512x2048, .bf16⟩
  | .local _ .vmem, ⟨22, _⟩ => ⟨S512x2048, .bf16⟩
  | .local _ .vmem, ⟨23, _⟩ => ⟨S2048x512, .bf16⟩
  | .local _ .vmem, ⟨24, _⟩ => ⟨S2048x512, .bf16⟩
  | .local _ .vmem, ⟨25, _⟩ => ⟨S512x512, .f32⟩
  | .local _ .vmem, ⟨26, _⟩ => ⟨S512x512, .f32⟩
  | .local _ .vmem, ⟨27, _⟩ => ⟨S512x2048, .bf16⟩
  | .local _ .vmem, ⟨28, _⟩ => ⟨S512x2048, .bf16⟩
  | .local _ .vmem, ⟨29, _⟩ => ⟨S2048x128, .bf16⟩
  | .local _ .vmem, ⟨30, _⟩ => ⟨S512x128, .f32⟩
  | .local _ .vmem, ⟨31, _⟩ => ⟨S512x128, .f32⟩
  | .local _ .vmem, ⟨32, _⟩ => ⟨S512x2048, .bf16⟩
  | .local _ .vmem, ⟨33, _⟩ => ⟨S512x2048, .bf16⟩
  | .local _ .vmem, ⟨34, _⟩ => ⟨S2048x16, .bf16⟩
  | .local _ .vmem, ⟨35, _⟩ => ⟨S512x16, .f32⟩
  | .local _ .vmem, ⟨36, _⟩ => ⟨S512x16, .f32⟩
  | .local _ .vmem, ⟨37, _⟩ => ⟨S1x256x2048, .f32⟩
  | .local _ .vmem, ⟨38, _⟩ => ⟨S1x256x2048, .f32⟩
  | .local _ .vmem, ⟨39, _⟩ => ⟨S1x256x1, .i32⟩
  | .local _ .vmem, ⟨40, _⟩ => ⟨S1x256x1, .i32⟩
  | .local _ .vmem, ⟨41, _⟩ => ⟨S1x128, .f32⟩
  | .local _ .vmem, ⟨42, _⟩ => ⟨S1x256x2048, .bf16⟩
  | .local _ .vmem, ⟨43, _⟩ => ⟨S1x256x2048, .bf16⟩
  | .local _ .vmem, ⟨44, _⟩ => ⟨S1x256x512, .f32⟩
  | .local _ .vmem, ⟨45, _⟩ => ⟨S1x256x512, .f32⟩
  | .local _ .vmem, ⟨46, _⟩ => ⟨S1x256x1, .i32⟩
  | .local _ .vmem, ⟨47, _⟩ => ⟨S1x256x1, .i32⟩
  | .local _ .vmem, ⟨48, _⟩ => ⟨S1x128, .f32⟩
  | .local _ .vmem, ⟨49, _⟩ => ⟨S1x256x512, .f32⟩
  | .local _ .vmem, ⟨50, _⟩ => ⟨S1x256x512, .f32⟩
  | .local _ .vmem, ⟨51, _⟩ => ⟨S1x256x2048, .f32⟩
  | .local _ .vmem, ⟨52, _⟩ => ⟨S1x256x2048, .f32⟩
  | .local _ .vmem, ⟨53, _⟩ => ⟨S1x256x1, .i32⟩
  | .local _ .vmem, ⟨54, _⟩ => ⟨S1x256x1, .i32⟩
  | .local _ .vmem, ⟨55, _⟩ => ⟨S1x128, .f32⟩
  | .local _ .vmem, ⟨56, _⟩ => ⟨S1x1x16x256x128, .bf16⟩
  | .local _ .vmem, ⟨57, _⟩ => ⟨S1x1x16x256x128, .bf16⟩
  | .local _ .vmem, ⟨58, _⟩ => ⟨S1x256x128, .f32⟩
  | .local _ .vmem, ⟨59, _⟩ => ⟨S1x256x128, .f32⟩
  | .local _ .vmem, ⟨60, _⟩ => ⟨S1x256x1, .i32⟩
  | .local _ .vmem, ⟨61, _⟩ => ⟨S1x256x1, .i32⟩
  | .local _ .vmem, ⟨62, _⟩ => ⟨S1x128, .f32⟩
  | .local _ .vmem, ⟨63, _⟩ => ⟨S1x256x128, .bf16⟩
  | .local _ .vmem, ⟨64, _⟩ => ⟨S1x256x128, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg1_1 : Ref sig .tc := ⟨.vmem, 54, rfl⟩
abbrev cc9_stg2_0 : Ref sig .tc := ⟨.vmem, 55, rfl⟩
abbrev cc9_stg3_0 : Ref sig .tc := ⟨.vmem, 56, rfl⟩
abbrev cc9_stg3_1 : Ref sig .tc := ⟨.vmem, 57, rfl⟩
abbrev cc10_stg0_0 : Ref sig .tc := ⟨.vmem, 58, rfl⟩
abbrev cc10_stg0_1 : Ref sig .tc := ⟨.vmem, 59, rfl⟩
abbrev cc10_stg1_0 : Ref sig .tc := ⟨.vmem, 60, rfl⟩
abbrev cc10_stg1_1 : Ref sig .tc := ⟨.vmem, 61, rfl⟩
abbrev cc10_stg2_0 : Ref sig .tc := ⟨.vmem, 62, rfl⟩
abbrev cc10_stg3_0 : Ref sig .tc := ⟨.vmem, 63, rfl⟩
abbrev cc10_stg3_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem3_0 : DmaSem sig := 56
abbrev cc9_sem3_1 : DmaSem sig := 57
abbrev cc10_sem0_0 : DmaSem sig := 58
abbrev cc10_sem0_1 : DmaSem sig := 59
abbrev cc10_sem1_0 : DmaSem sig := 60
abbrev cc10_sem1_1 : DmaSem sig := 61
abbrev cc10_sem2_0 : DmaSem sig := 62
abbrev cc10_sem3_0 : DmaSem sig := 63
abbrev cc10_sem3_1 : DmaSem sig := 64

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![64, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![64, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![64, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![64, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![64, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x16 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S512x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 64], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x256x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 2 → Memref sig .tc .vmem S1x256x2048 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![2, 64], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x256x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x256x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x256x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 64], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage9_0 : Fin 2 → Memref sig .tc .vmem S1x256x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S1x256x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 2 → Memref sig .tc .vmem S1x1x16x256x128 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![2, 64], ![false, false]⟩

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage10_0 : Fin 2 → Memref sig .tc .vmem S1x256x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 2 → Memref sig .tc .vmem S1x256x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1x256x128 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]
-- ==== Reference3Ideal.lean ====
abbrev S2x16384x2048 : Shape := ⟨3, ![2, 16384, 2048]⟩
abbrev S2x16384 : Shape := ⟨2, ![2, 16384]⟩
abbrev S2048 : Shape := ⟨1, ![2048]⟩
abbrev S2048x5264 : Shape := ⟨2, ![2048, 5264]⟩
abbrev S16 : Shape := ⟨1, ![16]⟩
abbrev S_ : Shape := ⟨0, ![]⟩
abbrev S2x16384x1 : Shape := ⟨3, ![2, 16384, 1]⟩
abbrev S1x1x16 : Shape := ⟨3, ![1, 1, 16]⟩
abbrev S2x16384x16 : Shape := ⟨3, ![2, 16384, 16]⟩
abbrev S1x1x2048 : Shape := ⟨3, ![1, 1, 2048]⟩
abbrev S2x16384x5264 : Shape := ⟨3, ![2, 16384, 5264]⟩
abbrev S2x16384x512 : Shape := ⟨3, ![2, 16384, 512]⟩
abbrev S2x16384x128 : Shape := ⟨3, ![2, 16384, 128]⟩
abbrev S2x16384x16x128 : Shape := ⟨4, ![2, 16384, 16, 128]⟩
abbrev S2x16384x16x16 : Shape := ⟨4, ![2, 16384, 16, 16]⟩
abbrev S2x16384x1x16 : Shape := ⟨4, ![2, 16384, 1, 16]⟩
abbrev S2x16384x16x32 : Shape := ⟨4, ![2, 16384, 16, 32]⟩
abbrev S2x16384x16x96 : Shape := ⟨4, ![2, 16384, 16, 96]⟩
abbrev S2x16384x4x128 : Shape := ⟨4, ![2, 16384, 4, 128]⟩
abbrev S2x16384x4x16 : Shape := ⟨4, ![2, 16384, 4, 16]⟩
abbrev S2x16384x4x32 : Shape := ⟨4, ![2, 16384, 4, 32]⟩
abbrev S2x16384x4x96 : Shape := ⟨4, ![2, 16384, 4, 96]⟩
abbrev S2x16384x1x128 : Shape := ⟨4, ![2, 16384, 1, 128]⟩
abbrev S2x16384x1x32 : Shape := ⟨4, ![2, 16384, 1, 32]⟩
abbrev S2x16384x1x96 : Shape := ⟨4, ![2, 16384, 1, 96]⟩

abbrev nBuf : Space → Nat
  | .hbm => 121
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384, .i32⟩
  | .hbm, ⟨2, _⟩ => ⟨S2048, .f32⟩
  | .hbm, ⟨3, _⟩ => ⟨S2048x5264, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2x16384, .f32⟩
  | .hbm, ⟨19, _⟩ => ⟨S2x16384x1, .f32⟩
  | .hbm, ⟨20, _⟩ => ⟨S1x1x16, .f32⟩
  | .hbm, ⟨21, _⟩ => ⟨S2x16384x16, .f32⟩
  | .hbm, ⟨22, _⟩ => ⟨S2x16384x16, .f32⟩
  | .hbm, ⟨23, _⟩ => ⟨S2x16384x16, .f32⟩
  | .hbm, ⟨24, _⟩ => ⟨S2x16384x16, .f32⟩
  | .hbm, ⟨25, _⟩ => ⟨S2x16384x16, .f32⟩
  | .hbm, ⟨26, _⟩ => ⟨S2x16384x2048, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1, .f32⟩
  | .hbm, ⟨37, _⟩ => ⟨S2x16384x2048, .f32⟩
  | .hbm, ⟨38, _⟩ => ⟨S2x16384x2048, .f32⟩
  | .hbm, ⟨39, _⟩ => ⟨S1x1x2048, .f32⟩
  | .hbm, ⟨40, _⟩ => ⟨S2x16384x2048, .f32⟩
  | .hbm, ⟨41, _⟩ => ⟨S2x16384x2048, .f32⟩
  | .hbm, ⟨42, _⟩ => ⟨S2x16384x5264, .f32⟩
  | .hbm, ⟨43, _⟩ => ⟨S2x16384x2048, .f32⟩
  | .hbm, ⟨44, _⟩ => ⟨S2x16384x512, .f32⟩
  | .hbm, ⟨45, _⟩ => ⟨S2x16384x512, .f32⟩
  | .hbm, ⟨46, _⟩ => ⟨S2x16384x2048, .f32⟩
  | .hbm, ⟨47, _⟩ => ⟨S2x16384x128, .f32⟩
  | .hbm, ⟨48, _⟩ => ⟨S2x16384x16, .f32⟩
  | .hbm, ⟨49, _⟩ => ⟨S2x16384x16x128, .f32⟩
  | .hbm, ⟨50, _⟩ => ⟨S2x16384x16x16, .f32⟩
  | .hbm, ⟨51, _⟩ => ⟨S2x16384x16x16, .f32⟩
  | .hbm, ⟨52, _⟩ => ⟨S2x16384x1x16, .f32⟩
  | .hbm, ⟨53, _⟩ => ⟨S2x16384x1x16, .f32⟩
  | .hbm, ⟨54, _⟩ => ⟨S2x16384x16x16, .f32⟩
  | .hbm, ⟨55, _⟩ => ⟨S2x16384x16x16, .f32⟩
  | .hbm, ⟨56, _⟩ => ⟨S2x16384x16x16, .f32⟩
  | .hbm, ⟨57, _⟩ => ⟨S2x16384x16x16, .f32⟩
  | .hbm, ⟨58, _⟩ => ⟨S2x16384x16x16, .f32⟩
  | .hbm, ⟨59, _⟩ => ⟨S2x16384x16x16, .f32⟩
  | .hbm, ⟨60, _⟩ => ⟨S2x16384x16x16, .f32⟩
  | .hbm, ⟨61, _⟩ => ⟨S2x16384x16x16, .f32⟩
  | .hbm, ⟨62, _⟩ => ⟨S2x16384x16x16, .f32⟩
  | .hbm, ⟨63, _⟩ => ⟨S2x16384x16x16, .f32⟩
  | .hbm, ⟨64, _⟩ => ⟨S2x16384x16x32, .f32⟩
  | .hbm, ⟨65, _⟩ => ⟨S2x16384x16x96, .f32⟩
  | .hbm, ⟨66, _⟩ => ⟨S2x16384x16x128, .f32⟩
  | .hbm, ⟨67, _⟩ => ⟨S2x16384x2048, .f32⟩
  | .hbm, ⟨68, _⟩ => ⟨S2x16384x4x128, .f32⟩
  | .hbm, ⟨69, _⟩ => ⟨S2x16384x4x16, .f32⟩
  | .hbm, ⟨70, _⟩ => ⟨S2x16384x4x16, .f32⟩
  | .hbm, ⟨71, _⟩ => ⟨S2x16384x1x16, .f32⟩
  | .hbm, ⟨72, _⟩ => ⟨S2x16384x1x16, .f32⟩
  | .hbm, ⟨73, _⟩ => ⟨S2x16384x4x16, .f32⟩
  | .hbm, ⟨74, _⟩ => ⟨S2x16384x4x16, .f32⟩
  | .hbm, ⟨75, _⟩ => ⟨S2x16384x4x16, .f32⟩
  | .hbm, ⟨76, _⟩ => ⟨S2x16384x4x16, .f32⟩
  | .hbm, ⟨77, _⟩ => ⟨S2x16384x4x16, .f32⟩
  | .hbm, ⟨78, _⟩ => ⟨S2x16384x4x16, .f32⟩
  | .hbm, ⟨79, _⟩ => ⟨S2x16384x4x16, .f32⟩
  | .hbm, ⟨80, _⟩ => ⟨S2x16384x4x16, .f32⟩
  | .hbm, ⟨81, _⟩ => ⟨S2x16384x4x16, .f32⟩
  | .hbm, ⟨82, _⟩ => ⟨S2x16384x4x16, .f32⟩
  | .hbm, ⟨83, _⟩ => ⟨S2x16384x4x32, .f32⟩
  | .hbm, ⟨84, _⟩ => ⟨S2x16384x4x96, .f32⟩
  | .hbm, ⟨85, _⟩ => ⟨S2x16384x4x128, .f32⟩
  | .hbm, ⟨86, _⟩ => ⟨S2x16384x512, .f32⟩
  | .hbm, ⟨87, _⟩ => ⟨S2x16384x16x128, .f32⟩
  | .hbm, ⟨88, _⟩ => ⟨S2x16384x16x16, .f32⟩
  | .hbm, ⟨89, _⟩ => ⟨S2x16384x16x16, .f32⟩
  | .hbm, ⟨90, _⟩ => ⟨S2x16384x1x16, .f32⟩
  | .hbm, ⟨91, _⟩ => ⟨S2x16384x1x16, .f32⟩
  | .hbm, ⟨92, _⟩ => ⟨S2x16384x16x16, .f32⟩
  | .hbm, ⟨93, _⟩ => ⟨S2x16384x16x16, .f32⟩
  | .hbm, ⟨94, _⟩ => ⟨S2x16384x16x16, .f32⟩
  | .hbm, ⟨95, _⟩ => ⟨S2x16384x16x16, .f32⟩
  | .hbm, ⟨96, _⟩ => ⟨S2x16384x16x16, .f32⟩
  | .hbm, ⟨97, _⟩ => ⟨S2x16384x16x16, .f32⟩
  | .hbm, ⟨98, _⟩ => ⟨S2x16384x16x16, .f32⟩
  | .hbm, ⟨99, _⟩ => ⟨S2x16384x16x16, .f32⟩
  | .hbm, ⟨100, _⟩ => ⟨S2x16384x16x16, .f32⟩
  | .hbm, ⟨101, _⟩ => ⟨S2x16384x16x16, .f32⟩
  | .hbm, ⟨102, _⟩ => ⟨S2x16384x16x32, .f32⟩
  | .hbm, ⟨103, _⟩ => ⟨S2x16384x16x96, .f32⟩
  | .hbm, ⟨104, _⟩ => ⟨S2x16384x16x128, .f32⟩
  | .hbm, ⟨105, _⟩ => ⟨S2x16384x2048, .f32⟩
  | .hbm, ⟨106, _⟩ => ⟨S2x16384x1x128, .f32⟩
  | .hbm, ⟨107, _⟩ => ⟨S2x16384x1x16, .f32⟩
  | .hbm, ⟨108, _⟩ => ⟨S2x16384x1x16, .f32⟩
  | .hbm, ⟨109, _⟩ => ⟨S2x16384x1x16, .f32⟩
  | .hbm, ⟨110, _⟩ => ⟨S2x16384x1x16, .f32⟩
  | .hbm, ⟨111, _⟩ => ⟨S2x16384x1x16, .f32⟩
  | .hbm, ⟨112, _⟩ => ⟨S2x16384x1x16, .f32⟩
  | .hbm, ⟨113, _⟩ => ⟨S2x16384x1x16, .f32⟩
  | .hbm, ⟨114, _⟩ => ⟨S2x16384x1x16, .f32⟩
  | .hbm, ⟨115, _⟩ => ⟨S2x16384x1x16, .f32⟩
  | .hbm, ⟨116, _⟩ => ⟨S2x16384x1x16, .f32⟩
  | .hbm, ⟨117, _⟩ => ⟨S2x16384x1x32, .f32⟩
  | .hbm, ⟨118, _⟩ => ⟨S2x16384x1x96, .f32⟩
  | .hbm, ⟨119, _⟩ => ⟨S2x16384x1x128, .f32⟩
  | .hbm, ⟨120, _⟩ => ⟨S2x16384x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩

abbrev nD : Nat := 1
abbrev τ : Topo := Topo.v7x

variable {F : FTy → Type} [FloatOps F]
-- ==== Kernel4.lean ====
abbrev S2x16384x2048 : Shape := ⟨3, ![2, 16384, 2048]⟩
abbrev S4x512x512 : Shape := ⟨3, ![4, 512, 512]⟩
abbrev S2048 : Shape := ⟨1, ![2048]⟩
abbrev S1x2048 : Shape := ⟨2, ![1, 2048]⟩
abbrev S1x512x2048 : Shape := ⟨3, ![1, 512, 2048]⟩
abbrev S1x16x2048 : Shape := ⟨3, ![1, 16, 2048]⟩
abbrev S528x512 : Shape := ⟨2, ![528, 512]⟩
abbrev S512x1 : Shape := ⟨2, ![512, 1]⟩
abbrev S1x512x512 : Shape := ⟨3, ![1, 512, 512]⟩
abbrev S512x512 : Shape := ⟨2, ![512, 512]⟩
abbrev S1x16x512 : Shape := ⟨3, ![1, 16, 512]⟩
abbrev S16x512 : Shape := ⟨2, ![16, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S4x512x512, .f32⟩
  | .hbm, ⟨2, _⟩ => ⟨S2048, .f32⟩
  | .hbm, ⟨3, _⟩ => ⟨S4x512x512, .bf16⟩
  | .hbm, ⟨4, _⟩ => ⟨S1x2048, .f32⟩
  | .hbm, ⟨5, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S4x512x512, .bf16⟩
  | .local _ .vmem, ⟨5, _⟩ => ⟨S1x2048, .f32⟩
  | .local _ .vmem, ⟨6, _⟩ => ⟨S1x512x2048, .f32⟩
  | .local _ .vmem, ⟨7, _⟩ => ⟨S1x512x2048, .f32⟩
  | .local _ .vmem, ⟨8, _⟩ => ⟨S528x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x16384x2048 : Shape := ⟨3, ![2, 16384, 2048]⟩
abbrev S4x512x512 : Shape := ⟨3, ![4, 512, 512]⟩
abbrev S2048 : Shape := ⟨1, ![2048]⟩
abbrev S2x16384x4x512 : Shape := ⟨4, ![2, 16384, 4, 512]⟩
abbrev S_ : Shape := ⟨0, ![]⟩
abbrev S16384 : Shape := ⟨1, ![16384]⟩
abbrev S2x16384x1x512 : Shape := ⟨4, ![2, 16384, 1, 512]⟩
abbrev S2x16384x512 : Shape := ⟨3, ![2, 16384, 512]⟩
abbrev S2x16382x512 : Shape := ⟨3, ![2, 16382, 512]⟩
abbrev S1x16384x1 : Shape := ⟨3, ![1, 16384, 1]⟩
abbrev S2x16380x512 : Shape := ⟨3, ![2, 16380, 512]⟩
abbrev S2x16376x512 : Shape := ⟨3, ![2, 16376, 512]⟩
abbrev S2x16368x512 : Shape := ⟨3, ![2, 16368, 512]⟩
abbrev S4x512x2x16384 : Shape := ⟨4, ![4, 512, 2, 16384]⟩
abbrev S1x1x2048 : Shape := ⟨3, ![1, 1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S4x512x512, .f32⟩
  | .hbm, ⟨2, _⟩ => ⟨S2048, .f32⟩
  | .hbm, ⟨3, _⟩ => ⟨S2x16384x4x512, .f32⟩
  | .hbm, ⟨4, _⟩ => ⟨S_, .f32⟩
  | .hbm, ⟨5, _⟩ => ⟨S_, .f32⟩
  | .hbm, ⟨6, _⟩ => ⟨S2x16384x4x512, .f32⟩
  | .hbm, ⟨7, _⟩ => ⟨S16384, .i32⟩
  | .hbm, ⟨8, _⟩ => ⟨S2x16384x1x512, .f32⟩
  | .hbm, ⟨9, _⟩ => ⟨S2x16384x512, .f32⟩
  | .hbm, ⟨10, _⟩ => ⟨S2x16382x512, .f32⟩
  | .hbm, ⟨11, _⟩ => ⟨S_, .i32⟩
  | .hbm, ⟨12, _⟩ => ⟨S_, .f32⟩
  | .hbm, ⟨13, _⟩ => ⟨S2x16384x512, .f32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .f32⟩
  | .hbm, ⟨21, _⟩ => ⟨S1x16384x1, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x1x512, .f32⟩
  | .hbm, ⟨26, _⟩ => ⟨S2x16384x512, .f32⟩
  | .hbm, ⟨27, _⟩ => ⟨S2x16384x512, .f32⟩
  | .hbm, ⟨28, _⟩ => ⟨S2x16384x1x512, .f32⟩
  | .hbm, ⟨29, _⟩ => ⟨S2x16384x512, .f32⟩
  | .hbm, ⟨30, _⟩ => ⟨S2x16380x512, .f32⟩
  | .hbm, ⟨31, _⟩ => ⟨S_, .i32⟩
  | .hbm, ⟨32, _⟩ => ⟨S_, .f32⟩
  | .hbm, ⟨33, _⟩ => ⟨S2x16384x512, .f32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .f32⟩
  | .hbm, ⟨41, _⟩ => ⟨S1x16384x1, .f32⟩
  | .hbm, ⟨42, _⟩ => ⟨S2x16384x512, .f32⟩
  | .hbm, ⟨43, _⟩ => ⟨S2x16384x512, .f32⟩
  | .hbm, ⟨44, _⟩ => ⟨S2x16384x512, .f32⟩
  | .hbm, ⟨45, _⟩ => ⟨S2x16384x1x512, .f32⟩
  | .hbm, ⟨46, _⟩ => ⟨S2x16384x512, .f32⟩
  | .hbm, ⟨47, _⟩ => ⟨S2x16384x512, .f32⟩
  | .hbm, ⟨48, _⟩ => ⟨S2x16384x1x512, .f32⟩
  | .hbm, ⟨49, _⟩ => ⟨S2x16384x512, .f32⟩
  | .hbm, ⟨50, _⟩ => ⟨S2x16376x512, .f32⟩
  | .hbm, ⟨51, _⟩ => ⟨S_, .i32⟩
  | .hbm, ⟨52, _⟩ => ⟨S_, .f32⟩
  | .hbm, ⟨53, _⟩ => ⟨S2x16384x512, .f32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i32⟩
  | .hbm, ⟨60, _⟩ => ⟨S16384, .f32⟩
  | .hbm, ⟨61, _⟩ => ⟨S1x16384x1, .f32⟩
  | .hbm, ⟨62, _⟩ => ⟨S2x16384x512, .f32⟩
  | .hbm, ⟨63, _⟩ => ⟨S2x16384x512, .f32⟩
  | .hbm, ⟨64, _⟩ => ⟨S2x16384x512, .f32⟩
  | .hbm, ⟨65, _⟩ => ⟨S2x16384x1x512, .f32⟩
  | .hbm, ⟨66, _⟩ => ⟨S2x16384x512, .f32⟩
  | .hbm, ⟨67, _⟩ => ⟨S2x16384x512, .f32⟩
  | .hbm, ⟨68, _⟩ => ⟨S2x16384x1x512, .f32⟩
  | .hbm, ⟨69, _⟩ => ⟨S2x16384x512, .f32⟩
  | .hbm, ⟨70, _⟩ => ⟨S2x16368x512, .f32⟩
  | .hbm, ⟨71, _⟩ => ⟨S_, .i32⟩
  | .hbm, ⟨72, _⟩ => ⟨S_, .f32⟩
  | .hbm, ⟨73, _⟩ => ⟨S2x16384x512, .f32⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S_, .i32⟩
  | .hbm, ⟨78, _⟩ => ⟨S16384, .i32⟩
  | .hbm, ⟨79, _⟩ => ⟨S16384, .i32⟩
  | .hbm, ⟨80, _⟩ => ⟨S16384, .f32⟩
  | .hbm, ⟨81, _⟩ => ⟨S1x16384x1, .f32⟩
  | .hbm, ⟨82, _⟩ => ⟨S2x16384x512, .f32⟩
  | .hbm, ⟨83, _⟩ => ⟨S2x16384x512, .f32⟩
  | .hbm, ⟨84, _⟩ => ⟨S2x16384x512, .f32⟩
  | .hbm, ⟨85, _⟩ => ⟨S2x16384x1x512, .f32⟩
  | .hbm, ⟨86, _⟩ => ⟨S2x16384x512, .f32⟩
  | .hbm, ⟨87, _⟩ => ⟨S2x16384x512, .f32⟩
  | .hbm, ⟨88, _⟩ => ⟨S2x16384x1x512, .f32⟩
  | .hbm, ⟨89, _⟩ => ⟨S2x16384x1x512, .f32⟩
  | .hbm, ⟨90, _⟩ => ⟨S2x16384x1x512, .f32⟩
  | .hbm, ⟨91, _⟩ => ⟨S2x16384x1x512, .f32⟩
  | .hbm, ⟨92, _⟩ => ⟨S2x16384x4x512, .f32⟩
  | .hbm, ⟨93, _⟩ => ⟨S4x512x2x16384, .f32⟩
  | .hbm, ⟨94, _⟩ => ⟨S2x16384x4x512, .f32⟩
  | .hbm, ⟨95, _⟩ => ⟨S2x16384x2048, .f32⟩
  | .hbm, ⟨96, _⟩ => ⟨S1x1x2048, .f32⟩
  | .hbm, ⟨97, _⟩ => ⟨S2x16384x2048, .f32⟩
  | .hbm, ⟨98, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call1_v0 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call2_v0 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_call3_v0 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_call4_v0 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Proof.ScoresRun.lean ====
/-
  The run of the index-scores call. The generated `Frame.lean` of this program stops at its body obligation, so it is not
  imported; the whole-body runs of the two cases (`Gen.kernelRun0_A`, a block some query of which may look at some key of
  it, and `Gen.kernelRun0_B`, a block wholly after its queries) are, and the obligation, the launch and the frame are here.
  The obligation is stated with the output window's idleness already decided (`live3`): left to unification, it is not; and the
  kernel's function is irreducible there, since nothing in that step needs to look into it.
-/
module

public import proofs.«01_k».proof.Proof.Gen.KernelIdeal.Frame.RunB
public import Idealize.ShloMosaic.Lib.Claim

@[expose] public section

set_option maxRecDepth 16384

noncomputable section

namespace Cert.KernelIdeal.Scores

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]
variable (m : (ℓ : Loc nD τ sig) → Buf (Elt F) ℓ) (ρ : Dev nD → PrngReg)

/-- Point `t`'s block is one that some query of it may look into. -/
abbrev Needed (t : Fin cfg0.N) : Prop := 4 * (t.val % 16) ≤ t.val / 16 % 64

theorem needed0 {t : Fin cfg0.N} (h : Needed t) : cond0_0 (grid0.coords t) := (hcond0_0 t).mpr h
theorem needed1 {t : Fin cfg0.N} (h : Needed t) : ¬cond0_1 (grid0.coords t) :=
  fun h' => by have := (hcond0_1 t).mp h'; unfold Needed at h; omega
theorem skipped0 {t : Fin cfg0.N} (h : ¬Needed t) : ¬cond0_0 (grid0.coords t) := fun h' => h ((hcond0_0 t).mp h')
theorem skipped1 {t : Fin cfg0.N} (h : ¬Needed t) : cond0_1 (grid0.coords t) :=
  (hcond0_1 t).mpr (by unfold Needed at h; omega)

/-- The run of a needed block at point `t`, on the point's own staging buffers. -/
abbrev runA (c : Dev nD) (t : Fin cfg0.N) (h : Needed t) (x0 : Vec F S1x1024x128 .bf16) (x1 : Vec F S1x1x4096x128 .bf16)
    (x2 : Vec F S1x1x16x256 .f32) :=
  kernelRun0_A c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (needed0 h) (needed1 h) x0 x1 x2

/-- The run of a skipped block. -/
abbrev runB (c : Dev nD) (t : Fin cfg0.N) (h : ¬Needed t) (x0 : Vec F S1x1024x128 .bf16) (x1 : Vec F S1x1x4096x128 .bf16)
    (x2 : Vec F S1x1x16x256 .f32) :=
  kernelRun0_B c (grid0.coords t) (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _) scM0_3 (Memref.isWhole_whole _)
    (skipped0 h) (skipped1 h) x0 x1 x2

/-- The thirty-two stores of a needed block tile the output's block. -/
theorem coverA (c : Dev nD) (t : Fin cfg0.N) (h : Needed t) (x0 : Vec F S1x1024x128 .bf16) (x1 : Vec F S1x1x4096x128 .bf16)
    (x2 : Vec F S1x1x16x256 .f32) (y : S1x1024x256.Idx) : ∃ pc ∈ (runA c t h x0 x1 x2).1, y ∈ pc.1.set :=
  View.cover_of_tiledL (runA c t h x0 x1 x2).1 S1x32x256.size (by sl_kernel_rfl) y

/-- The one store of a skipped block is the whole block. -/
theorem coverB (c : Dev nD) (t : Fin cfg0.N) (h : ¬Needed t) (x0 : Vec F S1x1024x128 .bf16) (x1 : Vec F S1x1x4096x128 .bf16)
    (x2 : Vec F S1x1x16x256 .f32) (y : S1x1024x256.Idx) : ∃ pc ∈ (runB c t h x0 x1 x2).1, y ∈ pc.1.set :=
  View.cover_of_tiledL (runB c t h x0 x1 x2).1 S1x1024x256.size (by sl_kernel_rfl) y

/-- What the body leaves in the output's staging buffer at point `t`. -/
def left (c : Dev nD) (t : Fin cfg0.N) : Vec F S1x1024x256 .f32 :=
  if h : Needed t then View.canon (runA c t h (iblk m c 0 t) (iblk m c 1 t) (iblk m c 2 t)).1
  else View.canon (runB c t h (iblk m c 0 t) (iblk m c 1 t) (iblk m c 2 t)).1

theorem left_needed (c : Dev nD) (t : Fin cfg0.N) (h : Needed t) :
    left m c t = View.canon (runA c t h (iblk m c 0 t) (iblk m c 1 t) (iblk m c 2 t)).1 := dif_pos h
theorem left_skipped (c : Dev nD) (t : Fin cfg0.N) (h : ¬Needed t) :
    left m c t = View.canon (runB c t h (iblk m c 0 t) (iblk m c 1 t) (iblk m c 2 t)).1 := dif_neg h

/-- The pipeline's proof data: the inputs' buffers keep their blocks, the output's ends at `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = left m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The window facts one by one: what the body is called with, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: one of the two runs, its four scratch buffers taken from the invariant and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [after0_0, after0_1, after0_2, after0_3]
  by_cases h : Needed t
  · rw [left_needed m c t h]
    iintro ⟨⟨⟨HS0, HS1, HS2, HS3⟩, Hg⟩, Ho, ⟨%d0, H0⟩, ⟨%d1, H1⟩, ⟨%d2, H2⟩, ⟨%d3, H3⟩⟩
    iapply ((runA c t h (iblk m c 0 t) (iblk m c 1 t) (iblk m c 2 t)).2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%e3, H3⟩, ⟨%f0, HS0⟩, ⟨%f1, HS1⟩, ⟨%f2, HS2⟩, ⟨%f3, HS3⟩⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_eq_canon _ _ _ (coverA c t h _ _ _)
  · rw [left_skipped m c t h]
    iintro ⟨⟨⟨HS0, HS1, HS2, HS3⟩, Hg⟩, Ho, ⟨%d0, H0⟩, ⟨%d1, H1⟩, ⟨%d2, H2⟩, ⟨%d3, H3⟩⟩
    iapply ((runB c t h (iblk m c 0 t) (iblk m c 1 t) (iblk m c 2 t)).2.2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    iintro ⟨H0, H1, H2, ⟨%e3, H3⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    unfold owns; iexists _; isplitr
    swap; · iexact H3
    ipureintro; exact View.read_writes_eq_canon _ _ _ (coverB c t h _ _ _)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem live3 (t : Fin cfg0.N) : cfg0.idle 3 (grid0.coords t) = false := by
  by_cases h : Needed t
  · exact liveAt0_3_A t (needed0 h) (needed1 h)
  · exact liveAt0_3_B t (skipped0 h) (skipped1 h)

section
attribute [local irreducible] cc0_index_scores

set_option maxHeartbeats 1600000 in
/-- The pipeline's body obligation. -/
theorem body_obligation (c : Dev nD) : BodyObligation (dats (F := F) m 0 c) (defs₀ (F := F)) Variants.none () Set.univ := fun t => by
  have h3 : idle0 3 (grid0.coords t) = false := live3 t
  rw [bigSep_W0, bigSep_W0, defs₀_row]
  simp only [liveAt0_0 t, liveAt0_1 t, liveAt0_2 t, h3]
  refine triple_restated (sound_body m c t) rfl ?_ fun _ => ?_
  · unfold bodyPre
    exact .rfl
  · unfold bodyPost
    exact .rfl

end

set_option backward.isDefEq.respectTransparency.types false in
set_option maxHeartbeats 800000 in
/-- The launch: every fair run ends, with the arrays at what the proof data says and every counter at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Scores

end
-- ==== Proof.ScoresBlock.lean ====
/-
  What the body stores at a needed block, at the ideal reading: each of its 1024 × 256 entries is the score of a key row
  against a query column — the heads' clipped products, weighted and added — as one sum over the sixteen heads. The thirty-two stores
  are thirty-two instances of one term (`blockA`), so one lemma reads them all.
-/
module

public import proofs.«01_k».proof.Proof.ScoresRun
public import Idealize.ShloMosaic.Lib.Pipeline.ValueKit

@[expose] public section
set_option maxRecDepth 16384
noncomputable section
open Idealize.ShloMosaic Idealize.ShloMosaic.TcCoe Idealize.SL.Sem
namespace Cert.KernelIdeal.Scores
open Cert.KernelIdeal Cert.KernelIdeal.Gen

variable (ks : Vec Ideal S1x1024x128 .bf16) (qs : Vec Ideal S1x1x4096x128 .bf16) (ws : Vec Ideal S1x1x16x256 .f32)

theorem hz2 : (![0, 0] : Fin 2 → Nat) = fun _ => 0 := by decide
theorem hz4 : (![0, 0, 0, 0] : Fin 4 → Nat) = fun _ => 0 := by decide

/-- A load of part of a scratch buffer after one store of the whole of it. -/
theorem readCov_part {sig' : RefSig} {κ : Kind} {sp : Space} (v : View sig' κ sp S256x4096 .f32) (inb) (X : Vec Ideal S256x4096 .f32)
    (r : Rect S256x4096) :
    v.readCov [(⟨Rect.unit ![0, 0] S256x4096.size inb, X⟩ : View.Piece (Elt Ideal) S256x4096 .f32)] r.toLoadRect = View.ld X r := by
  rw [View.readCov_eq_canon']
  funext j
  rw [View.canon_unit_zero hz2]

theorem inb_head (r : Fin 8) (h : Fin 16) : ∀ a, (![32 * r.val, 256 * h.val] : Fin 2 → ℕ) a + (![32, 256] : Fin 2 → ℕ) a ≤ S256x4096.size a := by
  decide +revert
theorem inb_rows (k : Fin 4) : ∀ a, (![0, 256 * k.val, 0] : Fin 3 → ℕ) a + (![1, 256, 128] : Fin 3 → ℕ) a ≤ S1x1024x128.size a := by
  decide +revert
theorem inb_out (k : Fin 4) (r : Fin 8) : ∀ a, (![0, 256 * k.val + 32 * r.val, 0] : Fin 3 → ℕ) a + (![1, 32, 256] : Fin 3 → ℕ) a ≤ S1x1024x256.size a := by
  decide +revert
theorem slices_head (h : Fin 16) : S16x256.Slices ![h.val, 0] S1x256 := by
  decide +revert

/-- The products of a 256-row sub-block of the keys with every query of every head. -/
def dots (k : Fin 4) : FVec Ideal S256x4096 .f32 :=
  k0_pay4 (View.ld ks (Rect.unit ![0, 256 * k.val, 0] ![1, 256, 128] (inb_rows k))) qs

/-- One head's part of 32 rows. -/
def headPart (W : FVec Ideal S16x256 .f32) (X : FVec Ideal S256x4096 .f32) (r : Fin 8) (h : Fin 16) : FVec Ideal S32x256 .f32 :=
  mulf (maximumf (View.ld (Val := Elt Ideal) (e' := .f32) X (Rect.unit ![32 * r.val, 256 * h.val] S32x256.size (inb_head r h)) : FVec Ideal S32x256 .f32) (broadcast S32x256 (Scalar.ofBits .f32 0x00000000#32)))
    (broadcastTo S32x256 (extractStridedSlice S1x256 ![h.val, 0] W (slices_head h)) broadcasts_S1x256_S32x256)

/-- Thirty-two rows of the output's block: the sixteen heads added in order. -/
def rows (k : Fin 4) (r : Fin 8) : FVec Ideal S1x32x256 .f32 :=
  shapeCast S1x32x256 ([0, 1, 2, 3, 4, 5, 6, 7, 8, 9, 10, 11, 12, 13, 14, 15].foldl
    (fun a h => addf a (headPart (k0_pay3 ws) (dots ks qs k) r h)) (broadcast S32x256 (Scalar.ofBits .f32 0x00000000#32))) shapeCasts_S32x256_S1x32x256

def piece (k : Fin 4) (r : Fin 8) : View.Piece (Elt Ideal) S1x1024x256 .f32 :=
  ⟨Rect.unit ![0, 256 * k.val + 32 * r.val, 0] ![1, 32, 256] (inb_out k r), rows ks qs ws k r⟩

theorem blockA (c : Dev nD) (t : Fin cfg0.N) (h)  :
   (runA c t h ks qs ws).1 = ([3, 2, 1, 0] : List (Fin 4)).flatMap fun k => ([7, 6, 5, 4, 3, 2, 1, 0] : List (Fin 8)).map fun r => piece ks qs ws k r := by
  unfold runA kernelRun0_A
  dsimp only
  sl_unfold_words
  simp only [View.readAt_eq_ld, (hs0_0 t).read_unread, (hs0_1 t).read_unread, (hs0_2 t).read_unread]
  have e (inb) : View.ld qs (Rect.unit ![0, 0, 0, 0] ![1, 1, 4096, 128] inb) = qs := View.ld_unit_zero (S := S1x1x4096x128) hz4 inb qs
  have e' (inb) : View.ld ws (Rect.unit ![0, 0, 0, 0] ![1, 1, 16, 256] inb) = ws := View.ld_unit_zero (S := S1x1x16x256) hz4 inb ws
  simp only [e, e']
  have e2 {κ : Kind} {sp : Space} (v : View sig κ sp S256x4096 .f32) (inb) (X : Vec Ideal S256x4096 .f32) (r : Rect S256x4096) :
    v.readCov [(⟨Rect.unit ![0, 0] ![256, 4096] inb, X⟩ : View.Piece (Elt Ideal) S256x4096 .f32)] r.toLoadRect = View.ld X r := readCov_part v inb X r
  simp only [e2]
  rfl

/-- The score of key row `i` against query column `j` of a block, before the mask. -/
def score (i : Fin 1024) (j : Fin 256) : EReal :=
  ∑ h : Fin 16, max (∑ d : Fin 128, ks (ix3 0 i d) * qs (ix4 0 0 ⟨256 * h.val + j.val, by omega⟩ d)) 0
    * (ws (ix4 0 0 h j) * (((Real.sqrt 2048)⁻¹ : ℝ) : EReal))

theorem dots_at (k : Fin 4) (i : Fin 256) (q : Fin 4096) :
    dots ks qs k (ix2 i q) = ∑ d : Fin 128, ks (ix3 0 ⟨256 * k.val + i.val, by omega⟩ d) * qs (ix4 0 0 q d) := by
  unfold dots
  pointwise [k0_pay4]

theorem weight_at (h : Fin 16) (j : Fin 256) : k0_pay3 ws (ix2 h j) = ws (ix4 0 0 h j) * (((Real.sqrt 2048)⁻¹ : ℝ) : EReal) := by
  have hk : Named.named (F := Ideal) κ "inv_sqrt_2048" (φ := .f32) 0x3CB504F3#32 = (((Real.sqrt 2048)⁻¹ : ℝ) : EReal) :=
    IdealRules.named_const.ideal_named_scalar _ _ _ _ rfl
  pointwise [k0_pay3]
  rw [hk]

theorem headPart_at (W : FVec Ideal S16x256 .f32) (X : FVec Ideal S256x4096 .f32) (r : Fin 8) (h : Fin 16) (i : Fin 32) (j : Fin 256) :
    headPart W X r h (ix2 i j) = max (X (ix2 ⟨32 * r.val + i.val, by omega⟩ ⟨256 * h.val + j.val, by omega⟩)) 0 * W (ix2 h j) := by
  unfold headPart
  pointwise

theorem rows_at (k : Fin 4) (r : Fin 8) (i : Fin 32) (j : Fin 256) :
    rows ks qs ws k r (ix3 0 i j) = score ks qs ws ⟨256 * k.val + 32 * r.val + i.val, by omega⟩ j := by
  have e : score ks qs ws ⟨256 * k.val + 32 * r.val + i.val, by omega⟩ j
      = ∑ h : Fin 16, (headPart (k0_pay3 ws) (dots ks qs k) r h (ix2 i j) : EReal) := by
    simp only [headPart_at, dots_at, weight_at]
    unfold score
    simp only [Nat.add_assoc]
  rw [e]
  unfold rows
  pointwise
  simp only [Fin.sum_univ_castSucc, Fin.sum_univ_zero, zero_add]
  rfl

theorem piece_at (k : Fin 4) (r : Fin 8) (x : S1x32x256.Idx) :
    rows ks qs ws k r x = (fun y : S1x1024x256.Idx => score ks qs ws (y 1) (y 2))
      ((Rect.unit (s := S1x1024x256) ![0, 256 * k.val + 32 * r.val, 0] ![1, 32, 256] (inb_out k r)).emb x) := by
  idx_vars x
  have h0 : x0 = 0 := by omega
  subst h0
  refine (rows_at ks qs ws k r x1 x2).trans (congrArg₂ (score ks qs ws) (Fin.ext ?_) (Fin.ext ?_))
  · show 256 * k.val + 32 * r.val + x1.val = 256 * k.val + 32 * r.val + 1 * x1.val
    omega
  · show x2.val = 0 + 1 * x2.val
    omega

theorem blockA_value (c : Dev nD) (t : Fin cfg0.N) (h) (y : S1x1024x256.Idx) :
    View.canon (runA c t h ks qs ws).1 y = score ks qs ws (y 1) (y 2) := by
  refine View.canon_apply_of_pieces (fun y => score ks qs ws (y 1) (y 2)) _ ?_ y (coverA c t h ks qs ws y)
  rw [blockA]
  intro p hp
  obtain ⟨k, -, hp⟩ := List.mem_flatMap.mp hp
  obtain ⟨r, -, rfl⟩ := List.mem_map.mp hp
  exact piece_at ks qs ws k r

end Cert.KernelIdeal.Scores

end
-- ==== Proof.ScoresMask.lean ====
/-
  What both programs' elements are made of: the selection by the causal comparison of two row numbers, the word that is −∞, and
  the two scales against the one.
-/
module

public import Idealize.ShloMosaic.Lib.ValueIdx
public import Idealize.ShloMosaic.Lib.WordCmp
public import Idealize.ShloMosaic.PureOps.Ideal.Laws

@[expose] public section

noncomputable section

open Idealize.ShloMosaic

namespace Cert.ScoresMask

/-- The comparison of two row numbers is the comparison of the rows. -/
theorem select_le {α : Type} (s t : Fin 16384) (x y : α) :
    Scalar.select (IntOp.cmpi CmpIPredicate.sle (BitVec.ofNat 32 s.val) (BitVec.ofNat 32 t.val)) x y
      = if s.val ≤ t.val then x else y := by
  unfold Scalar.select
  exact if_congr (Idealize.ShloMosaic.WordCmp.cmpi_sle_ofNat_eq_one_iff (by omega) (by omega)) rfl rfl

theorem word_bot : Ideal.ofBits FTy.f32 0xFF800000#32 = ⊥ := by
  simp [Ideal.ofBits, Ideal.ieee]

theorem word_quarter : Ideal.ofBits FTy.f32 0x3E800000#32 = ((1 / 4 : ℝ) : EReal) := by
  simp [Ideal.ofBits, Ideal.ieee, -EReal.coe_mul]; norm_num

theorem word_128 : Ideal.ofBits FTy.f32 0x43000000#32 = ((128 : ℝ) : EReal) := by
  simp [Ideal.ofBits, Ideal.ieee, -EReal.coe_mul]; norm_num

theorem sqrt_2048 : Real.sqrt 2048 = Real.sqrt 128 * 4 := by
  rw [show (2048 : ℝ) = 128 * (4 * 4) by norm_num, Real.sqrt_mul (by norm_num), Real.sqrt_mul_self (by norm_num)]

/-- A head's product over √128, clipped, times its weight over √16: the clipped product times the weight over √2048. -/
theorem head_eq (x w : EReal) :
    max (Ideal.div x (Ideal.sqrt (Ideal.ofBits FTy.f32 0x43000000#32))) 0 * (w * Ideal.ofBits FTy.f32 0x3E800000#32)
      = max x 0 * (w * (((Real.sqrt 2048)⁻¹ : ℝ) : EReal)) := by
  have h0 : Real.sqrt 128 ≠ 0 := (Real.sqrt_pos.mpr (by norm_num)).ne'
  have hc : (0 : EReal) ≤ ((1 / Real.sqrt 128 : ℝ) : EReal) := EReal.coe_nonneg.mpr (by positivity)
  rw [word_128, word_quarter, Ideal.sqrt_coe, if_neg (by norm_num), Ideal.div_coe h0]
  have hm : max (x * ((1 / Real.sqrt 128 : ℝ) : EReal)) 0 = max x 0 * ((1 / Real.sqrt 128 : ℝ) : EReal) := by
    have hmono : Monotone fun z : EReal => z * ((1 / Real.sqrt 128 : ℝ) : EReal) := fun a b hab => mul_le_mul_of_nonneg_right hab hc
    have := hmono.map_max (a := x) (b := 0)
    simp only [zero_mul] at this
    exact this.symm
  rw [hm, sqrt_2048, show ((Real.sqrt 128 * 4)⁻¹ : ℝ) = 1 / Real.sqrt 128 * (1 / 4) by rw [mul_inv]; ring, EReal.coe_mul]
  rw [mul_mul_mul_comm, mul_assoc]

end Cert.ScoresMask

end
-- ==== Proof.ScoresArray.lean ====
/-
  The array the index-scores call leaves: wherever the query may look at the key, the score of the arguments' own rows. (Where it
  may not, the array holds either a score or zero, and nothing is claimed: the program's last lines put −∞ there.)
-/
module

public import proofs.«01_k».proof.Proof.ScoresBlock
public import proofs.«01_k».proof.Proof.ScoresMask

@[expose] public section

set_option maxRecDepth 16384

noncomputable section

open Idealize.ShloMosaic Idealize.ShloMosaic.TcCoe Idealize.SL.Sem
open Idealize.ShloMosaic.Pipeline (Dat)

namespace Cert.KernelIdeal.Scores

open Cert.KernelIdeal Cert.KernelIdeal.Gen

variable (m : (ℓ : Loc nD τ sig) → Buf (Elt Ideal) ℓ)

/-- The score of key `s` for query `t` of sequence `b`: the heads' clipped products, weighted, over √128 · √16. -/
def fullScore (q : FVec Ideal S2x16384x16x128 .f32) (k : FVec Ideal S2x16384x128 .f32) (w : FVec Ideal S2x16384x16 .f32)
    (b : Fin 2) (s t : Fin 16384) : EReal :=
  ∑ h : Fin 16, max (∑ d : Fin 128, k (ix3 b s d) * q (ix4 b t h d)) 0 * (w (ix3 b t h) * (((Real.sqrt 2048)⁻¹ : ℝ) : EReal))

/-- The windows' block numbers at every point: batch, query block, key block; the keys of a skipped block are not fetched. -/
theorem idx : ∀ t : Fin cfg0.N, win0_0.index t = ![t.val / 1024, min (t.val % 16) (t.val / 16 % 64 / 4), 0]
    ∧ win0_1.index t = ![t.val / 1024, t.val / 16 % 64, 0, 0] ∧ win0_2.index t = ![t.val / 1024, t.val / 16 % 64, 0, 0]
    ∧ win0_3.index t = ![t.val / 1024, t.val % 16, t.val / 16 % 64] :=
  (by decide +kernel : ∀ t : Fin grid0.N, _)

theorem point_lt (t : Fin cfg0.N) : t.val < 2048 := lt_of_lt_of_eq t.isLt (show cfg0.N = 2048 from N_0)

/-- The point's batch, and the row its blocks' rows start from. -/
abbrev pb (t : Fin cfg0.N) : Fin 2 := ⟨t.val / 1024, by have := point_lt t; omega⟩
abbrev pk (t : Fin cfg0.N) (i : Fin 1024) : Fin 16384 := ⟨t.val % 16 * 1024 + i.val, by omega⟩
abbrev pq (t : Fin cfg0.N) (j : Fin 256) : Fin 16384 := ⟨t.val / 16 % 64 * 256 + j.val, by omega⟩

/-- The three arrays the region reads, as it finds them: the arguments cast, the queries' and weights' rows head-major in a block. -/
theorem keys_entry (c : Dev nD) (b : Fin 2) (s : Fin 16384) (d : Fin 128) :
    V m c main_v5 (ix3 b s d) = m ((c : Thread nD τ).loc main_arg1) (ix3 b s d) := by
  show StableHlo.after hostOps0 _ _ _ = _
  unfold_abbrev_sides
  after_results
  pointwise

theorem queries_entry (c : Dev nD) (b : Fin 2) (g : Fin 64) (h : Fin 16) (j : Fin 256) (d : Fin 128) :
    V m c main_v6 (ix4 b g ⟨256 * h.val + j.val, by omega⟩ d)
      = m ((c : Thread nD τ).loc main_arg0) (ix4 b ⟨g.val * 256 + j.val, by omega⟩ h d) := by
  show StableHlo.after hostOps0 _ _ _ = _
  unfold_abbrev_sides
  after_results
  pointwise

theorem weights_entry (c : Dev nD) (b : Fin 2) (g : Fin 64) (h : Fin 16) (j : Fin 256) :
    V m c main_v4 (ix4 b g h j)
      = m ((c : Thread nD τ).loc main_arg2) (ix3 b ⟨g.val * 256 + j.val, by omega⟩ h) := by
  show StableHlo.after hostOps0 _ _ _ = _
  unfold_abbrev_sides
  after_results
  pointwise

theorem keys_at (c : Dev nD) (t : Fin cfg0.N) (h : Needed t) (i : Fin 1024) (d : Fin 128) :
    iblk m c 0 t (ix3 0 i d) = m ((c : Thread nD τ).loc main_arg1) (ix3 (pb t) (pk t i) d) := by
  have ht := point_lt t
  unfold Needed at h
  refine Eq.trans ?_ (keys_entry m c _ _ _)
  blk_ext [iblk, idx t]

theorem queries_at (c : Dev nD) (t : Fin cfg0.N) (h : Fin 16) (j : Fin 256) (d : Fin 128) :
    iblk m c 1 t (ix4 0 0 ⟨256 * h.val + j.val, by omega⟩ d) = m ((c : Thread nD τ).loc main_arg0) (ix4 (pb t) (pq t j) h d) := by
  have ht := point_lt t
  have hg : t.val / 16 % 64 < 64 := by omega
  refine Eq.trans ?_ (queries_entry m c (pb t) ⟨t.val / 16 % 64, hg⟩ h j d)
  blk_ext [iblk, idx t]

theorem weights_at (c : Dev nD) (t : Fin cfg0.N) (h : Fin 16) (j : Fin 256) :
    iblk m c 2 t (ix4 0 0 h j) = m ((c : Thread nD τ).loc main_arg2) (ix3 (pb t) (pq t j) h) := by
  have ht := point_lt t
  have hg : t.val / 16 % 64 < 64 := by omega
  refine Eq.trans ?_ (weights_entry m c (pb t) ⟨t.val / 16 % 64, hg⟩ h j)
  blk_ext [iblk, idx t]

/-- The array the run leaves, at every key the query may look at. -/
theorem array_at (c : Dev nD) (i : S2x16384x16384.Idx) : (i 1).val ≤ (i 2).val →
    (dats m 0 c).arrAt 3 (cfgs 0).N i
      = fullScore (m ((c : Thread nD τ).loc main_arg0)) (m ((c : Thread nD τ).loc main_arg1)) (m ((c : Thread nD τ).loc main_arg2))
        (i 0) (i 1) (i 2) := by
  refine (dats m 0 c).arrAt_forall_of_covers 3 (fun i v => (i 1).val ≤ (i 2).val → v = fullScore
    (m ((c : Thread nD τ).loc main_arg0)) (m ((c : Thread nD τ).loc main_arg1)) (m ((c : Thread nD τ).loc main_arg2))
    (i 0) (i 1) (i 2)) (by decide +kernel) (fun t hf y => ?_) i
  have ht := point_lt t
  blk_simp
  rw [after0_3]
  idx_vars y
  intro hle
  rw [(idx t).2.2.2] at hle
  have hle' : t.val % 16 * 1024 + y1.val ≤ t.val / 16 % 64 * 256 + y2.val := hle
  have h1 : y1.val < 1024 := y1.isLt
  have h2 : y2.val < 256 := y2.isLt
  have h : Needed t := by unfold Needed; omega
  have e : ((View.whole main_v7).slice (win0_3.rect t)).emb (ix3 y0 y1 y2) = ix3 (pb t) (pk t y1) (pq t y2) := by
    blk_ext [idx t]
  refine Eq.trans ?_ (congrArg (fun i : S2x16384x16384.Idx => fullScore (m ((c : Thread nD τ).loc main_arg0))
    (m ((c : Thread nD τ).loc main_arg1)) (m ((c : Thread nD τ).loc main_arg2)) (i 0) (i 1) (i 2)) e.symm)
  rw [left_needed m c t h, blockA_value]
  unfold score fullScore
  refine Finset.sum_congr (M := EReal) rfl fun hd _ => ?_
  refine congrArg₂ (· * ·) (congrArg (max · 0) (Finset.sum_congr rfl fun d _ => congrArg₂ (· * ·) ?_ ?_)) (congrArg (· * _) ?_)
  · exact keys_at m c t h y1 d
  · exact queries_at m c t hd y2 d
  · exact weights_at m c t hd y2

/-- The program's result: the array where the key's row is at most the query's, −∞ elsewhere. -/
theorem tail_at (c : Dev nD) (b : Fin 2) (s t : Fin 16384) :
    Pipeline.afterTail₀ cfgs (dats m) 0 (V0 m) [hostOps1, hostOps1_1] c main_v11 (ix3 b s t)
      = (if s.val ≤ t.val then (dats m 0 c).arrAt 3 (cfgs 0).N (ix3 b s t) else (⊥ : EReal) : EReal) := by
  show StableHlo.after (hostOps1 ++ hostOps1_1) _ _ _ = _
  simp only [hostOps1, hostOps1_1, List.cons_append, List.nil_append]
  after_results
  refine Eq.trans (b := (Scalar.select (IntOp.cmpi CmpIPredicate.sle (BitVec.ofNat 32 s.val) (BitVec.ofNat 32 t.val))
    (Pipeline.withArrays spec0 c (V0 m c) (fun w => (dats m 0 c).arrAt w (cfgs 0).N) (Proc.devRef .tc (Pipeline.arrRef spec0 3)) (ix3 b s t))
    (Ideal.ofBits FTy.f32 0xFF800000#32) : EReal)) rfl ?_
  rw [ScoresMask.select_le, ScoresMask.word_bot]
  refine if_congr Iff.rfl ?_ rfl
  rw [Pipeline.withArrays_arr spec0 (by decide)]

end Cert.KernelIdeal.Scores

end
-- ==== Proof.ScoresReference.lean ====
/-
  The reference's index scores, element by element: where the query may look at the key, the same sum of the heads' weighted,
  clipped products; where it may not, −∞.
-/
module

public import proofs.«01_k».proof.Proof.Gen.ReferenceIdeal.Read
public import proofs.«01_k».proof.Proof.ScoresMask
public import Idealize.ShloMosaic.Lib.ValueIdx
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Scores

open Cert.ReferenceIdeal Cert.ReferenceIdeal.Gen Cert.ReferenceIdeal.Read

variable (q : (⟨S2x16384x16x128, .f32⟩ : BufTy).Contents (Elt Ideal)) (k : (⟨S2x16384x128, .f32⟩ : BufTy).Contents (Elt Ideal))
  (w : (⟨S2x16384x16, .f32⟩ : BufTy).Contents (Elt Ideal))

theorem result_at (b : Fin 2) (s t : Fin 16384) :
    val_main_v16 (F := Ideal) q k w (ix3 b s t)
      = (if s.val ≤ t.val then ∑ h : Fin 16, max (∑ d : Fin 128, k (ix3 b s d) * q (ix4 b t h d)) 0
          * (w (ix3 b t h) * (((Real.sqrt 2048)⁻¹ : ℝ) : EReal)) else (⊥ : EReal) : EReal) := by
  pointwise [val_main_cst, val_main_v0, val_main_v1, val_main_v2, val_main_cst_0, val_main_v3, val_main_v4, val_main_v5, val_main_call0_cst, val_main_call0_v0, val_main_v6, val_main_v7, val_main_v8, val_main_v9, val_main_v10, val_main_v11, val_main_v12, val_main_v13, val_main_v14, val_main_cst_1, val_main_call1_v0, val_main_call1_v1, val_main_call1_v2, val_main_v15, val_main_v16]
  rw [ScoresMask.select_le]
  refine if_congr Iff.rfl (Finset.sum_congr rfl fun h _ => ?_) ScoresMask.word_bot
  rw [ScoresMask.head_eq]
  simp only [mul_comm (q _)]

end Cert.ReferenceIdeal.Scores

end
-- ==== Proof.Rows.lean ====
/-
  The functions of a row that the layer is made of, over the extended reals.
-/
module

public import Idealize.ShloMosaic.PureOps.Ideal.Laws

@[expose] public section

noncomputable section

open Idealize.ShloMosaic

namespace Cert.Rows

/-- A row divided by its root mean square (2048 columns, the program's own epsilon), times the gains. -/
def norm (x g : Fin 2048 → EReal) (d : Fin 2048) : EReal :=
  x d * Ideal.rsqrt (Ideal.div (∑ k, x k * x k) (Ideal.ofBits FTy.f32 0x45000000#32) + Ideal.ofBits FTy.f32 0x358637BD#32) * g d

/-- The same, added to the row it came from. -/
def normAdd (r x g : Fin 2048 → EReal) (d : Fin 2048) : EReal := r d + norm x g d

/-- The product of a row and a column. -/
def dot {n : Nat} (x w : Fin n → EReal) : EReal := ∑ k, x k * w k

/-- The gate's activation. -/
def silu (z : EReal) : EReal := z * Ideal.div 1 (1 + Ideal.exp (-z))

/-- The left (gate) and the right (up) column of a pair of weight columns. -/
def left (j : Fin 5632) : Fin 11264 := ⟨j.val, by omega⟩

def right (j : Fin 5632) : Fin 11264 := ⟨5632 + j.val, by omega⟩

/-- The gated product of a row with the two halves of the weight. -/
def gated (x : Fin 2048 → EReal) (w : Fin 2048 → Fin 11264 → EReal) (j : Fin 5632) : EReal :=
  silu (dot x fun k => w k (left j)) * dot x fun k => w k (right j)

/-- The column of `col`'s head at lane `e` (four heads of 128 lanes). -/
def head (col : Fin 512) (e : Fin 128) : Fin 512 := ⟨col.val / 128 * 128 + e.val, by omega⟩

/-- A query's product with a key over the lanes of `col`'s head, scaled by 1/√128. -/
def logit (q k : Fin 512 → EReal) (col : Fin 512) : EReal :=
  dot (fun e => q (head col e)) (fun e => k (head col e)) * (((Real.sqrt 128)⁻¹ : ℝ) : EReal)

/-- The largest of a row of 256. -/
def top (z : Fin 256 → EReal) : EReal := Finset.univ.fold max (Ideal.ofBits FTy.f32 0xFF800000#32) z

/-- The values `v` mixed by the softmax of `z`. -/
def mix (z v : Fin 256 → EReal) : EReal :=
  ∑ j, Ideal.div (Ideal.exp (z j - top z)) (∑ i, Ideal.exp (z i - top z)) * v j

/-- Four-headed attention of a query to 256 memory rows, at a column. -/
def attend (q : Fin 512 → EReal) (k v : Fin 256 → Fin 512 → EReal) (col : Fin 512) : EReal :=
  mix (fun j => logit q (k j) col) fun j => v j col

/-- The key and the value column of a memory row's product. -/
def keyCol (e : Fin 512) : Fin 1024 := ⟨e.val, by omega⟩

def valueCol (e : Fin 512) : Fin 1024 := ⟨512 + e.val, by omega⟩

/-- A row times a matrix. -/
def times {n p : Nat} (x : Fin n → EReal) (w : Fin n → Fin p → EReal) (j : Fin p) : EReal := dot x fun k => w k j

/-- The residual stream after the memory cross-attention, from the stream before it. -/
def afterAttention (h : Fin 2048 → EReal) (mem : Fin 256 → Fin 2048 → EReal) (g : Fin 6 → Fin 2048 → EReal) (gm : Fin 2048 → EReal)
    (wq : Fin 2048 → Fin 512 → EReal) (wkv : Fin 2048 → Fin 1024 → EReal) (wo : Fin 512 → Fin 2048 → EReal) : Fin 2048 → EReal :=
  normAdd h (times (attend (times (norm h (g 2)) wq) (fun j e => times (norm (mem j) gm) wkv (keyCol e))
    fun j e => times (norm (mem j) gm) wkv (valueCol e)) wo) (g 3)

/-- The residual stream after the feed-forward sublayer, from the stream before it. -/
def afterFfn (h : Fin 2048 → EReal) (g : Fin 6 → Fin 2048 → EReal) (w₁ : Fin 2048 → Fin 11264 → EReal) (w₂ : Fin 5632 → Fin 2048 → EReal) :
    Fin 2048 → EReal :=
  normAdd h (times (gated (norm h (g 4)) w₁) w₂) (g 5)

/-- A batch and a position as one of the flattened rows. -/
def row (b : Fin 2) (s : Fin 16384) : Fin 32768 := ⟨b.val * 16384 + s.val, by omega⟩

/-- A batch and a memory slot as one of the flattened memory rows. -/
def memRow (b : Fin 2) (j : Fin 256) : Fin 512 := ⟨b.val * 256 + j.val, by omega⟩

end Cert.Rows

end
-- ==== Proof.TailNorms.lean ====
/-
  The six norms of the second half of the layer, each as a function of the arrays it reads, whatever those hold.
-/
module

public import proofs.«01_k».proof.Proof.Gen.Kernel2Ideal.Frame.Region0
public import proofs.«01_k».proof.Proof.Gen.Kernel2Ideal.Frame.Region2
public import proofs.«01_k».proof.Proof.Gen.Kernel2Ideal.Frame.Region3
public import proofs.«01_k».proof.Proof.Gen.Kernel2Ideal.Frame.Region8
public import proofs.«01_k».proof.Proof.Gen.Kernel2Ideal.Frame.Region9
public import proofs.«01_k».proof.Proof.Gen.Kernel2Ideal.Frame.Region12
public import proofs.«01_k».proof.Proof.Rows
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)

theorem norm_memory : (dat0 V c).arrAt 2 cfg0.N = fun i : S512x2048.Idx =>
    Rows.norm (fun d => V c main_v1 (ix2 (i 0) d)) (fun d => V c main_v2 (ix2 0 d)) (i 1) := by
  refine (dat0 V c).arrAt_eq_of_covers 2 _ (by decide +kernel) fun t hf y => ?_
  blk_simp
  rw [after0_2]
  unfold out0_2
  frame_out
  idx_vars y
  pointwise [k0_pay1, Rows.norm]
  blk_point [iblk0, idx0 t]

theorem idx2 : ∀ t : Fin cfg2.N, win2_0.index t = ![t.val, 0] ∧ win2_1.index t = ![0, 0] ∧ win2_2.index t = ![t.val, 0]
    ∧ win2_3.index t = ![t.val, 0] :=
  (by decide +kernel : ∀ t : Fin grid2.N, _)

theorem norm_mixer : (dat2 V c).arrAt 3 cfg2.N = fun i : S32768x2048.Idx =>
    Rows.normAdd (fun d => V c main_v0 (ix2 (i 0) d)) (fun d => V c main_v6 (ix2 (i 0) d)) (fun d => V c main_v9 (ix2 0 d)) (i 1) := by
  refine (dat2 V c).arrAt_eq_of_covers 3 _ (by decide +kernel) fun t hf y => ?_
  blk_simp
  rw [after2_3]
  unfold out2_3
  frame_out
  idx_vars y
  pointwise [k2_pay1, Rows.normAdd, Rows.norm]
  blk_point [iblk2, idx2 t]

theorem idx3 : ∀ t : Fin cfg3.N, win3_0.index t = ![t.val, 0] ∧ win3_1.index t = ![0, 0] ∧ win3_2.index t = ![t.val, 0] :=
  (by decide +kernel : ∀ t : Fin grid3.N, _)

theorem norm_pre_attention : (dat3 V c).arrAt 2 cfg3.N = fun i : S32768x2048.Idx =>
    Rows.norm (fun d => V c main_v10 (ix2 (i 0) d)) (fun d => V c main_v13 (ix2 0 d)) (i 1) := by
  refine (dat3 V c).arrAt_eq_of_covers 2 _ (by decide +kernel) fun t hf y => ?_
  blk_simp
  rw [after3_2]
  unfold out3_2
  frame_out
  idx_vars y
  pointwise [k3_pay1, Rows.norm]
  blk_point [iblk3, idx3 t]

theorem idx8 : ∀ t : Fin cfg8.N, win8_0.index t = ![t.val, 0] ∧ win8_1.index t = ![0, 0] ∧ win8_2.index t = ![t.val, 0]
    ∧ win8_3.index t = ![t.val, 0] :=
  (by decide +kernel : ∀ t : Fin grid8.N, _)

theorem norm_post_attention : (dat8 V c).arrAt 3 cfg8.N = fun i : S32768x2048.Idx =>
    Rows.normAdd (fun d => V c main_v10 (ix2 (i 0) d)) (fun d => V c main_v27 (ix2 (i 0) d)) (fun d => V c main_v30 (ix2 0 d)) (i 1) := by
  refine (dat8 V c).arrAt_eq_of_covers 3 _ (by decide +kernel) fun t hf y => ?_
  blk_simp
  rw [after8_3]
  unfold out8_3
  frame_out
  idx_vars y
  pointwise [k8_pay1, Rows.normAdd, Rows.norm]
  blk_point [iblk8, idx8 t]

theorem idx9 : ∀ t : Fin cfg9.N, win9_0.index t = ![t.val, 0] ∧ win9_1.index t = ![0, 0] ∧ win9_2.index t = ![t.val, 0] :=
  (by decide +kernel : ∀ t : Fin grid9.N, _)

theorem norm_pre_ffn : (dat9 V c).arrAt 2 cfg9.N = fun i : S32768x2048.Idx =>
    Rows.norm (fun d => V c main_v31 (ix2 (i 0) d)) (fun d => V c main_v34 (ix2 0 d)) (i 1) := by
  refine (dat9 V c).arrAt_eq_of_covers 2 _ (by decide +kernel) fun t hf y => ?_
  blk_simp
  rw [after9_2]
  unfold out9_2
  frame_out
  idx_vars y
  pointwise [k9_pay1, Rows.norm]
  blk_point [iblk9, idx9 t]

theorem idx12 : ∀ t : Fin cfg12.N, win12_0.index t = ![t.val, 0] ∧ win12_1.index t = ![0, 0] ∧ win12_2.index t = ![t.val, 0]
    ∧ win12_3.index t = ![t.val, 0] :=
  (by decide +kernel : ∀ t : Fin grid12.N, _)

theorem norm_post_ffn : (dat12 V c).arrAt 3 cfg12.N = fun i : S32768x2048.Idx =>
    Rows.normAdd (fun d => V c main_v31 (ix2 (i 0) d)) (fun d => V c main_v39 (ix2 (i 0) d)) (fun d => V c main_v42 (ix2 0 d)) (i 1) := by
  refine (dat12 V c).arrAt_eq_of_covers 3 _ (by decide +kernel) fun t hf y => ?_
  blk_simp
  rw [after12_3]
  unfold out12_3
  frame_out
  idx_vars y
  pointwise [k12_pay1, Rows.normAdd, Rows.norm]
  blk_point [iblk12, idx12 t]

end Cert.Kernel2Ideal.Tail

end
-- ==== Proof.TailProducts.lean ====
/-
  The products of the second half of the layer, each as a function of the arrays it reads, whatever those hold.
-/
module

public import proofs.«01_k».proof.Proof.Gen.Kernel2Ideal.Frame.Region1
public import proofs.«01_k».proof.Proof.Gen.Kernel2Ideal.Frame.Region4
public import proofs.«01_k».proof.Proof.Gen.Kernel2Ideal.Frame.Region5
public import proofs.«01_k».proof.Proof.Gen.Kernel2Ideal.Frame.Region7
public import proofs.«01_k».proof.Proof.Gen.Kernel2Ideal.Frame.Region10
public import proofs.«01_k».proof.Proof.Gen.Kernel2Ideal.Frame.Region11
public import proofs.«01_k».proof.Proof.Rows
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen

variable (V : (c : Dev nD) → (b : Ref sig .tc) → Buf (Elt Ideal) ((c : Thread nD τ).loc b)) (c : Dev nD)

theorem idx1 : ∀ t : Fin cfg1.N, win1_0.index t = ![t.val / 4, 0] ∧ win1_1.index t = ![0, t.val % 4]
    ∧ win1_2.index t = ![t.val / 4, t.val % 4] :=
  (by decide +kernel : ∀ t : Fin grid1.N, _)

theorem mixer_out : (dat1 V c).arrAt 2 cfg1.N = fun i : S32768x2048.Idx =>
    Rows.dot (fun k => V c main_v4 (ix2 (i 0) k)) (fun k => V c main_v5 (ix2 k (i 1))) := by
  refine (dat1 V c).arrAt_eq_of_covers 2 _ (by decide +kernel) fun t hf y => ?_
  blk_simp
  rw [after1_2]
  unfold out1_2
  frame_out
  idx_vars y
  pointwise [k1_pay1, Rows.dot]
  blk_point [iblk1, idx1 t]

theorem idx4 : ∀ t : Fin cfg4.N, win4_0.index t = ![t.val / 1, 0] ∧ win4_1.index t = ![0, t.val % 1]
    ∧ win4_2.index t = ![t.val / 1, t.val % 1] :=
  (by decide +kernel : ∀ t : Fin grid4.N, _)

theorem query : (dat4 V c).arrAt 2 cfg4.N = fun i : S32768x512.Idx =>
    Rows.dot (fun k => V c main_v14 (ix2 (i 0) k)) (fun k => V c main_v15 (ix2 k (i 1))) := by
  refine (dat4 V c).arrAt_eq_of_covers 2 _ (by decide +kernel) fun t hf y => ?_
  blk_simp
  rw [after4_2]
  unfold out4_2
  frame_out
  idx_vars y
  pointwise [k4_pay1, Rows.dot]
  blk_point [iblk4, idx4 t]

theorem idx5 : ∀ t : Fin cfg5.N, win5_0.index t = ![t.val / 2, 0] ∧ win5_1.index t = ![0, t.val % 2]
    ∧ win5_2.index t = ![t.val / 2, t.val % 2] :=
  (by decide +kernel : ∀ t : Fin grid5.N, _)

theorem key_value : (dat5 V c).arrAt 2 cfg5.N = fun i : S512x1024.Idx =>
    Rows.dot (fun k => V c main_v3 (ix2 (i 0) k)) (fun k => V c main_v18 (ix2 k (i 1))) := by
  refine (dat5 V c).arrAt_eq_of_covers 2 _ (by decide +kernel) fun t hf y => ?_
  blk_simp
  rw [after5_2]
  unfold out5_2
  frame_out
  idx_vars y
  pointwise [k5_pay1, Rows.dot]
  blk_point [iblk5, idx5 t]

theorem idx7 : ∀ t : Fin cfg7.N, win7_0.index t = ![t.val / 4, 0] ∧ win7_1.index t = ![0, t.val % 4]
    ∧ win7_2.index t = ![t.val / 4, t.val % 4] :=
  (by decide +kernel : ∀ t : Fin grid7.N, _)

theorem attention_out : (dat7 V c).arrAt 2 cfg7.N = fun i : S32768x2048.Idx =>
    Rows.dot (fun k => V c main_v25 (ix2 (i 0) k)) (fun k => V c main_v26 (ix2 k (i 1))) := by
  refine (dat7 V c).arrAt_eq_of_covers 2 _ (by decide +kernel) fun t hf y => ?_
  blk_simp
  rw [after7_2]
  unfold out7_2
  frame_out
  idx_vars y
  pointwise [k7_pay1, Rows.dot]
  blk_point [iblk7, idx7 t]

theorem idx10 : ∀ t : Fin cfg10.N, win10_0.index t = ![t.val / 11, 0] ∧ win10_1.index t = ![0, t.val % 11]
    ∧ win10_2.index t = ![0, t.val % 11 + 11] ∧ win10_3.index t = ![t.val / 11, t.val % 11] :=
  (by decide +kernel : ∀ t : Fin grid10.N, _)

theorem gate_up : (dat10 V c).arrAt 3 cfg10.N = fun i : S32768x5632.Idx =>
    Rows.gated (fun k => V c main_v35 (ix2 (i 0) k)) (fun k j => V c main_v36 (ix2 k j)) (i 1) := by
  refine (dat10 V c).arrAt_eq_of_covers 3 _ (by decide +kernel) fun t hf y => ?_
  blk_simp
  rw [after10_3]
  unfold out10_3
  frame_out
  idx_vars y
  pointwise [k10_pay1, Rows.gated, Rows.silu, Rows.dot, Rows.left, Rows.right]
  simp only [zero_sub]
  blk_point [iblk10, idx10 t]

theorem idx11 : ∀ t : Fin cfg11.N, win11_0.index t = ![t.val / 4, 0] ∧ win11_1.index t = ![0, t.val % 4]
    ∧ win11_2.index t = ![t.val / 4, t.val % 4] :=
  (by decide +kernel : ∀ t : Fin grid11.N, _)

theorem down : (dat11 V c).arrAt 2 cfg11.N = fun i : S32768x2048.Idx =>
    Rows.dot (fun k => V c main_v37 (ix2 (i 0) k)) (fun k => V c main_v38 (ix2 k (i 1))) := by
  refine (dat11 V c).arrAt_eq_of_covers 2 _ (by decide +kernel) fun t hf y => ?_
  blk_simp
  rw [after11_2]
  unfold out11_2
  frame_out
  idx_vars y
  pointwise [k11_pay1, Rows.dot]
  blk_point [iblk11, idx11 t]

end Cert.Kernel2Ideal.Tail

end
-- ==== Proof.TailAttention.lean ====
/-
  The memory cross-attention core as a function of the arrays it reads.
-/
module

public import proofs.«01_k».proof.Proof.Gen.Kernel2Ideal.Frame.Region6
public import proofs.«01_k».proof.Proof.Rows
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Tail

open Cert.Kernel2Ideal Cert.Kernel2Ideal.Gen

variable (V : (c : Dev nD) → (b : Ref sig .tc) → Buf (Elt Ideal) ((c : Thread nD τ).loc b)) (c : Dev nD)

theorem idx6 : ∀ t : Fin cfg6.N, win6_0.index t = ![t.val / 32, t.val % 32, 0] ∧ win6_1.index t = ![t.val / 32, 0, 0]
    ∧ win6_2.index t = ![t.val / 32, 0, 0] ∧ win6_3.index t = ![t.val / 32, t.val % 32, 0] :=
  (by decide +kernel : ∀ t : Fin grid6.N, _)

variable (q : Vec Ideal S1x512x512 .bf16) (k v : Vec Ideal S1x256x512 .bf16)

theorem named_eq : Named.named (F := Ideal) κ "inv_sqrt_128" (φ := .f32) 0x3DB504F3#32 = (((Real.sqrt 128)⁻¹ : ℝ) : EReal) :=
  rfl

/-- The four stores of a block, one per head, are one function of the block's reads. -/
theorem block_at (y : S1x512x512.Idx) :
    @Eq EReal (out6_3 (F := Ideal) q k v y)
      (Rows.attend (fun e => q (ix3 0 (y 1) e)) (fun j e => k (ix3 0 j e)) (fun j e => v (ix3 0 j e)) (y 2)) := by
  canon_tiles x h
  all_goals
    idx_vars x
    open_payloads
    pointwise [Rows.attend, Rows.mix, Rows.top, Rows.logit, Rows.dot, Rows.head]
    simp only [named_eq]
    blk_point

theorem attention : (dat6 V c).arrAt 3 cfg6.N = fun i : S2x16384x512.Idx =>
    Rows.attend (fun e => V c main_v17 (ix3 (i 0) (i 1) e)) (fun j e => V c main_v21 (ix3 (i 0) j e))
      (fun j e => V c main_v23 (ix3 (i 0) j e)) (i 2) := by
  refine (dat6 V c).arrAt_eq_of_covers 3 _ (by decide +kernel) fun t hf y => ?_
  blk_simp
  rw [after6_3]
  refine (block_at _ _ _ y).trans ?_
  idx_vars y
  pointwise [Rows.attend, Rows.mix, Rows.top, Rows.logit, Rows.dot, Rows.head]
  blk_point [iblk6, idx6 t]

end Cert.Kernel2Ideal.Tail

end
-- ==== Proof.TailRun.lean ====
/-
  The second half of the layer from its arguments to its result, through the thirteen regions and the host operations between them.
-/
module

public import proofs.«01_k».proof.Proof.Gen.Kernel2Ideal.Frame
public import proofs.«01_k».proof.Proof.TailNorms
public import proofs.«01_k».proof.Proof.TailProducts
public import proofs.«01_k».proof.Proof.TailAttention

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Tail

open Cert.Kernel2Ideal Cert.Kernel2Ideal.Gen

variable (m : (ℓ : Loc nD τ sig) → Buf (Elt Ideal) ℓ) (ρ : Dev nD → PrngReg) (c : Dev nD)

theorem stream_at (b : Fin 2) (s : Fin 16384) (d : Fin 2048) : V1 m ρ c main_v0 (ix2 (Rows.row b s) d) = m ((c : Thread nD τ).loc main_arg1) (ix3 b s d) := by
  refine Eq.trans (b := W0 m ρ c (Proc.devRef .tc main_arg1) (ix3 b s d)) ?_ (congrFun (W0_args m ρ c main_arg1 (by decide)) _)
  show StableHlo.after hostOps0 _ _ _ = _
  after_results
  pointwise [Rows.row]

theorem memory_at (b : Fin 2) (j : Fin 256) (d : Fin 2048) : V1 m ρ c main_v1 (ix2 (Rows.memRow b j) d) = m ((c : Thread nD τ).loc main_arg2) (ix3 b j d) := by
  refine Eq.trans (b := W0 m ρ c (Proc.devRef .tc main_arg2) (ix3 b j d)) ?_ (congrFun (W0_args m ρ c main_arg2 (by decide)) _)
  show StableHlo.after hostOps0 _ _ _ = _
  after_results
  pointwise [Rows.memRow]

theorem memory_gain_at (d : Fin 2048) : V1 m ρ c main_v2 (ix2 0 d) = m ((c : Thread nD τ).loc main_arg4) (ix1 d) := by
  refine Eq.trans (b := W0 m ρ c (Proc.devRef .tc main_arg4) (ix1 d)) ?_ (congrFun (W0_args m ρ c main_arg4 (by decide)) _)
  show StableHlo.after hostOps0 _ _ _ = _
  after_results
  pointwise

theorem mixer_at (b : Fin 2) (s : Fin 16384) (d : Fin 2048) : V3 m ρ c main_v4 (ix2 (Rows.row b s) d) = m ((c : Thread nD τ).loc main_arg0) (ix3 b s d) := by
  refine Eq.trans (b := W2 m ρ c (Proc.devRef .tc main_arg0) (ix3 b s d)) ?_ (congrFun (W2_args m ρ c main_arg0 (by decide)) _)
  show StableHlo.after hostOps1 _ _ _ = _
  after_results
  pointwise [Rows.row]

theorem w_mixer_at (k : Fin 2048) (j : Fin 2048) : V3 m ρ c main_v5 (ix2 k j) = m ((c : Thread nD τ).loc main_arg5) (ix2 k j) := by
  refine Eq.trans (b := W2 m ρ c (Proc.devRef .tc main_arg5) (ix2 k j)) ?_ (congrFun (W2_args m ρ c main_arg5 (by decide)) _)
  show StableHlo.after hostOps1 _ _ _ = _
  after_results
  pointwise

theorem w_query_at (k : Fin 2048) (j : Fin 512) : V9 m ρ c main_v15 (ix2 k j) = m ((c : Thread nD τ).loc main_arg6) (ix2 k j) := by
  refine Eq.trans (b := W8 m ρ c (Proc.devRef .tc main_arg6) (ix2 k j)) ?_ (congrFun (W8_args m ρ c main_arg6 (by decide)) _)
  show StableHlo.after hostOps4 _ _ _ = _
  after_results
  pointwise

theorem w_key_value_at (k : Fin 2048) (j : Fin 1024) : V11 m ρ c main_v18 (ix2 k j) = m ((c : Thread nD τ).loc main_arg7) (ix2 k j) := by
  refine Eq.trans (b := W10 m ρ c (Proc.devRef .tc main_arg7) (ix2 k j)) ?_ (congrFun (W10_args m ρ c main_arg7 (by decide)) _)
  show StableHlo.after hostOps5 _ _ _ = _
  after_results
  pointwise

theorem w_attention_at (k : Fin 512) (j : Fin 2048) : V15 m ρ c main_v26 (ix2 k j) = m ((c : Thread nD τ).loc main_arg8) (ix2 k j) := by
  refine Eq.trans (b := W14 m ρ c (Proc.devRef .tc main_arg8) (ix2 k j)) ?_ (congrFun (W14_args m ρ c main_arg8 (by decide)) _)
  show StableHlo.after hostOps7 _ _ _ = _
  after_results
  pointwise

theorem w_gate_up_at (k : Fin 2048) (j : Fin 11264) : V21 m ρ c main_v36 (ix2 k j) = m ((c : Thread nD τ).loc main_arg9) (ix2 k j) := by
  refine Eq.trans (b := W20 m ρ c (Proc.devRef .tc main_arg9) (ix2 k j)) ?_ (congrFun (W20_args m ρ c main_arg9 (by decide)) _)
  show StableHlo.after hostOps10 _ _ _ = _
  after_results
  pointwise

theorem w_down_at (k : Fin 5632) (j : Fin 2048) : V23 m ρ c main_v38 (ix2 k j) = m ((c : Thread nD τ).loc main_arg10) (ix2 k j) := by
  refine Eq.trans (b := W22 m ρ c (Proc.devRef .tc main_arg10) (ix2 k j)) ?_ (congrFun (W22_args m ρ c main_arg10 (by decide)) _)
  show StableHlo.after hostOps11 _ _ _ = _
  after_results
  pointwise

theorem gain1_at (d : Fin 2048) : V5 m ρ c main_v9 (ix2 0 d) = m ((c : Thread nD τ).loc main_arg3) (ix2 1 d) := by
  refine Eq.trans (b := W4 m ρ c (Proc.devRef .tc main_arg3) (ix2 1 d)) ?_ (congrFun (W4_args m ρ c main_arg3 (by decide)) _)
  show StableHlo.after hostOps2 _ _ _ = _
  after_results
  pointwise

theorem gain2_at (d : Fin 2048) : V7 m ρ c main_v13 (ix2 0 d) = m ((c : Thread nD τ).loc main_arg3) (ix2 2 d) := by
  refine Eq.trans (b := W6 m ρ c (Proc.devRef .tc main_arg3) (ix2 2 d)) ?_ (congrFun (W6_args m ρ c main_arg3 (by decide)) _)
  show StableHlo.after hostOps3 _ _ _ = _
  after_results
  pointwise

theorem gain3_at (d : Fin 2048) : V17 m ρ c main_v30 (ix2 0 d) = m ((c : Thread nD τ).loc main_arg3) (ix2 3 d) := by
  refine Eq.trans (b := W16 m ρ c (Proc.devRef .tc main_arg3) (ix2 3 d)) ?_ (congrFun (W16_args m ρ c main_arg3 (by decide)) _)
  show StableHlo.after hostOps8 _ _ _ = _
  after_results
  pointwise

theorem gain4_at (d : Fin 2048) : V19 m ρ c main_v34 (ix2 0 d) = m ((c : Thread nD τ).loc main_arg3) (ix2 4 d) := by
  refine Eq.trans (b := W18 m ρ c (Proc.devRef .tc main_arg3) (ix2 4 d)) ?_ (congrFun (W18_args m ρ c main_arg3 (by decide)) _)
  show StableHlo.after hostOps9 _ _ _ = _
  after_results
  pointwise

theorem gain5_at (d : Fin 2048) : V25 m ρ c main_v42 (ix2 0 d) = m ((c : Thread nD τ).loc main_arg3) (ix2 5 d) := by
  refine Eq.trans (b := W24 m ρ c (Proc.devRef .tc main_arg3) (ix2 5 d)) ?_ (congrFun (W24_args m ρ c main_arg3 (by decide)) _)
  show StableHlo.after hostOps12 _ _ _ = _
  after_results
  pointwise

theorem query_at (b : Fin 2) (s : Fin 16384) (e : Fin 512) : W11 m ρ c (Proc.devRef .tc main_v17) (ix3 b s e) = V10 m ρ c main_v16 (ix2 (Rows.row b s) e) := by
  show StableHlo.after hostOps5 _ _ _ = _
  after_results
  pointwise [Rows.row]

theorem key_at (b : Fin 2) (j : Fin 256) (e : Fin 512) : W13 m ρ c (Proc.devRef .tc main_v21) (ix3 b j e) = V12 m ρ c main_v19 (ix2 (Rows.memRow b j) (Rows.keyCol e)) := by
  show StableHlo.after hostOps6 _ _ _ = _
  after_results
  pointwise [Rows.memRow, Rows.keyCol]

theorem value_at (b : Fin 2) (j : Fin 256) (e : Fin 512) : W13 m ρ c (Proc.devRef .tc main_v23) (ix3 b j e) = V12 m ρ c main_v19 (ix2 (Rows.memRow b j) (Rows.valueCol e)) := by
  show StableHlo.after hostOps6 _ _ _ = _
  after_results
  pointwise [Rows.memRow, Rows.valueCol]

theorem attended_at (b : Fin 2) (s : Fin 16384) (e : Fin 512) : W15 m ρ c (Proc.devRef .tc main_v25) (ix2 (Rows.row b s) e) = V14 m ρ c main_v24 (ix3 b s e) := by
  show StableHlo.after hostOps7 _ _ _ = _
  after_results
  pointwise [Rows.row]

theorem out_at (b : Fin 2) (s : Fin 16384) (d : Fin 2048) : W27 m ρ c (Proc.devRef .tc main_v44) (ix3 b s d) = V26 m ρ c main_v43 (ix2 (Rows.row b s) d) := by
  show StableHlo.after hostOps13 _ _ _ = _
  after_results
  pointwise [Rows.row]

theorem v0_kept : V5 m ρ c main_v0 = V1 m ρ c main_v0 :=
  (W5_of m ρ c main_v0 (by decide)).trans <| (W4_of m ρ c main_v0 (by decide)).trans <| (W3_of m ρ c main_v0 (by decide)).trans <| (W2_of m ρ c main_v0 (by decide))

theorem v3_kept : V11 m ρ c main_v3 = V2 m ρ c main_v3 :=
  (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide))

theorem v10_kept : V17 m ρ c main_v10 = V6 m ρ c main_v10 :=
  (W17_of m ρ c main_v10 (by decide)).trans <| (W16_of m ρ c main_v10 (by decide)).trans <| (W15_of m ρ c main_v10 (by decide)).trans <| (W14_of m ρ c main_v10 (by decide)).trans <| (W13_of m ρ c main_v10 (by decide)).trans <| (W12_of m ρ c main_v10 (by decide)).trans <| (W11_of m ρ c main_v10 (by decide)).trans <| (W10_of m ρ c main_v10 (by decide)).trans <| (W9_of m ρ c main_v10 (by decide)).trans <| (W8_of m ρ c main_v10 (by decide)).trans <| (W7_of m ρ c main_v10 (by decide))

theorem v31_kept : V25 m ρ c main_v31 = V18 m ρ c main_v31 :=
  (W25_of m ρ c main_v31 (by decide)).trans <| (W24_of m ρ c main_v31 (by decide)).trans <| (W23_of m ρ c main_v31 (by decide)).trans <| (W22_of m ρ c main_v31 (by decide)).trans <| (W21_of m ρ c main_v31 (by decide)).trans <| (W20_of m ρ c main_v31 (by decide)).trans <| (W19_of m ρ c main_v31 (by decide))

theorem v17_kept : V13 m ρ c main_v17 = V11 m ρ c main_v17 :=
  (W13_of m ρ c main_v17 (by decide)).trans <| (W12_of m ρ c main_v17 (by decide))

/-- The normalised memory rows, as the second product is entered with them. -/
theorem memory_row (b : Fin 2) (j : Fin 256) : (fun d => V11 m ρ c main_v3 (ix2 (Rows.memRow b j) d))
    = Rows.norm (fun d => m ((c : Thread nD τ).loc main_arg2) (ix3 b j d)) (fun d => m ((c : Thread nD τ).loc main_arg4) (ix1 d)) := by
  refine (funext fun d => (congrFun (v3_kept m ρ c) _).trans (congrFun ((W2_arr m ρ c 2).trans (norm_memory (V1 m ρ) c)) (ix2 (Rows.memRow b j) d))).trans ?_
  exact congrArg₂ Rows.norm (funext (memory_at m ρ c b j)) (funext (memory_gain_at m ρ c))

theorem mixer_row (b : Fin 2) (s : Fin 16384) : (fun d => V5 m ρ c main_v6 (ix2 (Rows.row b s) d))
    = Rows.times (fun k => m ((c : Thread nD τ).loc main_arg0) (ix3 b s k)) fun k d => m ((c : Thread nD τ).loc main_arg5) (ix2 k d) := by
  refine (funext fun d => (congrFun (W5_of m ρ c main_v6 (by decide)) _).trans (congrFun ((W4_arr m ρ c 2).trans (mixer_out (V3 m ρ) c)) (ix2 (Rows.row b s) d))).trans ?_
  exact funext fun d => congrArg₂ Rows.dot (funext (mixer_at m ρ c b s)) (funext fun k => w_mixer_at m ρ c k d)

/-- The residual stream after the mixer. -/
abbrev afterMixer (b : Fin 2) (s : Fin 16384) : Fin 2048 → EReal :=
  Rows.normAdd (fun d => m ((c : Thread nD τ).loc main_arg1) (ix3 b s d)) (Rows.times (fun k => m ((c : Thread nD τ).loc main_arg0) (ix3 b s k)) fun k d => m ((c : Thread nD τ).loc main_arg5) (ix2 k d))
    fun d => m ((c : Thread nD τ).loc main_arg3) (ix2 1 d)

theorem after_mixer_row (b : Fin 2) (s : Fin 16384) : (fun d => V6 m ρ c main_v10 (ix2 (Rows.row b s) d)) = afterMixer m c b s := by
  refine (funext fun d => (congrFun ((W6_arr m ρ c 3).trans (norm_mixer (V5 m ρ) c)) (ix2 (Rows.row b s) d))).trans ?_
  exact congr (congrArg₂ Rows.normAdd ((funext fun d => congrFun (v0_kept m ρ c) _).trans (funext (stream_at m ρ c b s)))
    (mixer_row m ρ c b s)) (funext (gain1_at m ρ c))

theorem query_row (b : Fin 2) (s : Fin 16384) : (fun e => V13 m ρ c main_v17 (ix3 b s e))
    = Rows.times (Rows.norm (afterMixer m c b s) fun d => m ((c : Thread nD τ).loc main_arg3) (ix2 2 d)) fun k e => m ((c : Thread nD τ).loc main_arg6) (ix2 k e) := by
  refine (funext fun e => (congrFun (v17_kept m ρ c) _).trans ((query_at m ρ c b s e).trans
    (congrFun ((W10_arr m ρ c 2).trans (query (V9 m ρ) c)) (ix2 (Rows.row b s) e)))).trans ?_
  refine funext fun e => congrArg₂ Rows.dot ?_ (funext fun k => w_query_at m ρ c k e)
  refine (funext fun d => (congrFun (W9_of m ρ c main_v14 (by decide)) _).trans (congrFun ((W8_arr m ρ c 2).trans (norm_pre_attention (V7 m ρ) c)) (ix2 (Rows.row b s) d))).trans ?_
  exact congrArg₂ Rows.norm ((funext fun d => congrFun (W7_of m ρ c main_v10 (by decide)) _).trans (after_mixer_row m ρ c b s)) (funext (gain2_at m ρ c))

theorem key_value_row (b : Fin 2) (j : Fin 256) (e : Fin 1024) : V12 m ρ c main_v19 (ix2 (Rows.memRow b j) e)
    = Rows.times (Rows.norm (fun d => m ((c : Thread nD τ).loc main_arg2) (ix3 b j d)) fun d => m ((c : Thread nD τ).loc main_arg4) (ix1 d)) (fun k e => m ((c : Thread nD τ).loc main_arg7) (ix2 k e)) e := by
  refine (congrFun ((W12_arr m ρ c 2).trans (key_value (V11 m ρ) c)) (ix2 (Rows.memRow b j) e)).trans ?_
  exact congrArg₂ Rows.dot (memory_row m ρ c b j) (funext fun k => w_key_value_at m ρ c k e)

/-- The residual stream after the memory cross-attention. -/
abbrev afterAttention (b : Fin 2) (s : Fin 16384) : Fin 2048 → EReal :=
  Rows.afterAttention (afterMixer m c b s) (fun j d => m ((c : Thread nD τ).loc main_arg2) (ix3 b j d)) (fun k d => m ((c : Thread nD τ).loc main_arg3) (ix2 k d)) (fun d => m ((c : Thread nD τ).loc main_arg4) (ix1 d))
    (fun k e => m ((c : Thread nD τ).loc main_arg6) (ix2 k e)) (fun k e => m ((c : Thread nD τ).loc main_arg7) (ix2 k e)) fun e d => m ((c : Thread nD τ).loc main_arg8) (ix2 e d)

theorem after_attention_row (b : Fin 2) (s : Fin 16384) : (fun d => V18 m ρ c main_v31 (ix2 (Rows.row b s) d)) = afterAttention m c b s := by
  refine (funext fun d => (congrFun ((W18_arr m ρ c 3).trans (norm_post_attention (V17 m ρ) c)) (ix2 (Rows.row b s) d))).trans ?_
  refine congr (congrArg₂ Rows.normAdd ((funext fun d => congrFun (v10_kept m ρ c) _).trans (after_mixer_row m ρ c b s)) ?_)
    (funext (gain3_at m ρ c))
  refine (funext fun d => (congrFun (W17_of m ρ c main_v27 (by decide)) _).trans (congrFun ((W16_arr m ρ c 2).trans (attention_out (V15 m ρ) c)) (ix2 (Rows.row b s) d))).trans ?_
  refine funext fun d => congrArg₂ Rows.dot (funext fun e => ?_) (funext fun k => w_attention_at m ρ c k d)
  refine (attended_at m ρ c b s e).trans ((congrFun ((W14_arr m ρ c 3).trans (attention (V13 m ρ) c)) (ix3 b s e)).trans ?_)
  exact congrFun (congr (congrArg₂ Rows.attend (query_row m ρ c b s)
    (funext fun j => funext fun e => (key_at m ρ c b j e).trans (key_value_row m ρ c b j (Rows.keyCol e))))
    (funext fun j => funext fun e => (value_at m ρ c b j e).trans (key_value_row m ρ c b j (Rows.valueCol e)))) e

theorem gated_row (b : Fin 2) (s : Fin 16384) : (fun j => V23 m ρ c main_v37 (ix2 (Rows.row b s) j))
    = Rows.gated (Rows.norm (afterAttention m c b s) fun d => m ((c : Thread nD τ).loc main_arg3) (ix2 4 d)) fun k j => m ((c : Thread nD τ).loc main_arg9) (ix2 k j) := by
  refine (funext fun j => (congrFun (W23_of m ρ c main_v37 (by decide)) _).trans (congrFun ((W22_arr m ρ c 3).trans (gate_up (V21 m ρ) c)) (ix2 (Rows.row b s) j))).trans ?_
  refine funext fun j => congrFun (congrArg₂ Rows.gated ?_ (funext fun k => funext fun j => w_gate_up_at m ρ c k j)) j
  refine (funext fun d => (congrFun (W21_of m ρ c main_v35 (by decide)) _).trans (congrFun ((W20_arr m ρ c 2).trans (norm_pre_ffn (V19 m ρ) c)) (ix2 (Rows.row b s) d))).trans ?_
  exact congrArg₂ Rows.norm ((funext fun d => congrFun (W19_of m ρ c main_v31 (by decide)) _).trans (after_attention_row m ρ c b s)) (funext (gain4_at m ρ c))

theorem result_at (b : Fin 2) (s : Fin 16384) (d : Fin 2048) : W27 m ρ c (Proc.devRef .tc main_v44) (ix3 b s d)
    = Rows.afterFfn (afterAttention m c b s) (fun k d => m ((c : Thread nD τ).loc main_arg3) (ix2 k d)) (fun k j => m ((c : Thread nD τ).loc main_arg9) (ix2 k j)) (fun j d => m ((c : Thread nD τ).loc main_arg10) (ix2 j d)) d := by
  refine (out_at m ρ c b s d).trans ((congrFun ((W26_arr m ρ c 3).trans (norm_post_ffn (V25 m ρ) c)) (ix2 (Rows.row b s) d)).trans ?_)
  refine congrFun (congr (congrArg₂ Rows.normAdd ((funext fun d => congrFun (v31_kept m ρ c) _).trans (after_attention_row m ρ c b s)) ?_)
    (funext (gain5_at m ρ c))) d
  refine (funext fun d => (congrFun (W25_of m ρ c main_v39 (by decide)) _).trans (congrFun ((W24_arr m ρ c 2).trans (down (V23 m ρ) c)) (ix2 (Rows.row b s) d))).trans ?_
  exact funext fun d => congrArg₂ Rows.dot (gated_row m ρ c b s) (funext fun k => w_down_at m ρ c k d)

set_option backward.isDefEq.respectTransparency.types false in
/-- The launch over the segments, with the result read at the last boundary. -/
theorem run_main : θ_run defs (onTc (τ := τ) (main (F := Ideal))) ⟨m, fun _ => 0, ρ⟩ (fun r => ∀ c : Dev nD,
      r.2.mem ((c.tc : Thread nD τ).loc main_v44) = W27 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h _ => fun c => ⟨h c _ (mem_uc main_v44 (by decide)),
      (h c _ (mem_uc main_arg0 (by decide))).trans (W27_main_arg0 m ρ c),
      (h c _ (mem_uc main_arg1 (by decide))).trans (W27_main_arg1 m ρ c),
      (h c _ (mem_uc main_arg2 (by decide))).trans (W27_main_arg2 m ρ c),
      (h c _ (mem_uc main_arg3 (by decide))).trans (W27_main_arg3 m ρ c),
      (h c _ (mem_uc main_arg4 (by decide))).trans (W27_main_arg4 m ρ c),
      (h c _ (mem_uc main_arg5 (by decide))).trans (W27_main_arg5 m ρ c),
      (h c _ (mem_uc main_arg6 (by decide))).trans (W27_main_arg6 m ρ c),
      (h c _ (mem_uc main_arg7 (by decide))).trans (W27_main_arg7 m ρ c),
      (h c _ (mem_uc main_arg8 (by decide))).trans (W27_main_arg8 m ρ c),
      (h c _ (mem_uc main_arg9 (by decide))).trans (W27_main_arg9 m ρ c),
      (h c _ (mem_uc main_arg10 (by decide))).trans (W27_main_arg10 m ρ c)⟩)

end Cert.Kernel2Ideal.Tail

end
-- ==== Proof.TailReference.lean ====
/-
  The reference of the second half of the layer, stage by stage, each as a function of the row of the stage before it.
-/
module

public import proofs.«01_k».proof.Proof.Gen.Reference2Ideal.Read
public import proofs.«01_k».proof.Proof.Rows
public import Idealize.ShloMosaic.Lib.ValueIdx
public import Idealize.ShloMosaic.Lib.Pointwise

@[expose] public section

set_option maxRecDepth 16384

noncomputable section

open Idealize.ShloMosaic

namespace Cert.Reference2Ideal.Tail

open Cert.Reference2Ideal Cert.Reference2Ideal.Gen Cert.Reference2Ideal.Read

variable (x0 : (⟨S2x16384x2048, .f32⟩ : BufTy).Contents (Elt Ideal))
  (x1 : (⟨S2x16384x2048, .f32⟩ : BufTy).Contents (Elt Ideal))
  (x2 : (⟨S2x256x2048, .f32⟩ : BufTy).Contents (Elt Ideal))
  (x3 : (⟨S6x2048, .f32⟩ : BufTy).Contents (Elt Ideal))
  (x4 : (⟨S2048, .f32⟩ : BufTy).Contents (Elt Ideal))
  (x5 : (⟨S2048x2048, .f32⟩ : BufTy).Contents (Elt Ideal))
  (x6 : (⟨S2048x512, .f32⟩ : BufTy).Contents (Elt Ideal))
  (x7 : (⟨S2048x1024, .f32⟩ : BufTy).Contents (Elt Ideal))
  (x8 : (⟨S512x2048, .f32⟩ : BufTy).Contents (Elt Ideal))
  (x9 : (⟨S2048x11264, .f32⟩ : BufTy).Contents (Elt Ideal))
  (x10 : (⟨S5632x2048, .f32⟩ : BufTy).Contents (Elt Ideal))

theorem reduce_at (X : (⟨S2x4x16384x256, .f32⟩ : BufTy).Contents (Elt Ideal)) (b : Fin 2) (h : Fin 4) (s : Fin 16384) :
    Host.reduce FloatOps.maximumf X (constant (F := Ideal) S_ .f32 0xFF800000#32) reducesTo_S2x4x16384x256_S2x4x16384_d3 h_S_ (ix3 b h s)
      = Rows.top fun j => X (ix4 b h s j) := by
  pointwise [Rows.top]

/-- Dividing by the square root of 128 is multiplying by its inverse. -/
theorem scaled (x : EReal) : Ideal.div x (Ideal.sqrt (Ideal.ofBits FTy.f32 0x43000000#32)) = x * (((Real.sqrt 128)⁻¹ : ℝ) : EReal) := by
  have e : Ideal.ofBits FTy.f32 0x43000000#32 = ((128 : ℝ) : EReal) := by
    simp [Ideal.ofBits, Ideal.ieee, -EReal.coe_mul]
    norm_num
  have h0 : Real.sqrt 128 ≠ 0 := (Real.sqrt_pos.mpr (by norm_num)).ne'
  rw [e, Ideal.sqrt_coe, if_neg (by norm_num), Ideal.div_coe h0, one_div]

theorem bot_max (x : EReal) : max (Ideal.ofBits FTy.f32 0xFF800000#32) x = x := by
  refine max_eq_right ?_
  simp [Ideal.ofBits, Ideal.ieee]

theorem memory_at (b : Fin 2) (j : Fin 256) (d : Fin 2048) :
    val_main_v12 x2 x4 (ix3 b j d) = Rows.norm (fun d => x2 (ix3 b j d)) (fun d => x4 (ix1 d)) d := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Rows.norm]

theorem mixer_out_at (b : Fin 2) (s : Fin 16384) (d : Fin 2048) :
    val_main_v13 x0 x5 (ix3 b s d) = Rows.times (fun k => x0 (ix3 b s k)) (fun k d => x5 (ix2 k d)) d := by
  pointwise [val_main_v13, Rows.times, Rows.dot]

theorem after_mixer_at (b : Fin 2) (s : Fin 16384) (d : Fin 2048) :
    val_main_v29 x0 x1 x3 x5 (ix3 b s d) = Rows.normAdd (fun d => x1 (ix3 b s d)) (fun d => val_main_v13 x0 x5 (ix3 b s d)) (fun d => x3 (ix2 1 d)) d := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, Rows.normAdd, Rows.norm]

theorem pre_attention_at (b : Fin 2) (s : Fin 16384) (d : Fin 2048) :
    val_main_v44 x0 x1 x3 x5 (ix3 b s d) = Rows.norm (fun d => val_main_v29 x0 x1 x3 x5 (ix3 b s d)) (fun d => x3 (ix2 2 d)) d := by
  pointwise [val_main_v44, val_main_v43, val_main_v42, val_main_v41, val_main_v40, val_main_v39, val_main_v38, val_main_v37, val_main_v36, val_main_v35, val_main_v34, val_main_v33, val_main_v32, val_main_v31, val_main_v30, val_main_cst_5, val_main_cst_6, val_main_cst_7, Rows.norm]

theorem query_at (b : Fin 2) (s : Fin 16384) (e : Fin 512) :
    val_main_v45 x0 x1 x3 x5 x6 (ix3 b s e) = Rows.times (fun d => val_main_v44 x0 x1 x3 x5 (ix3 b s d)) (fun k e => x6 (ix2 k e)) e := by
  pointwise [val_main_v45, Rows.times, Rows.dot]

theorem key_value_at (b : Fin 2) (j : Fin 256) (e : Fin 1024) :
    val_main_v47 x2 x4 x7 (ix3 b j e) = Rows.times (fun d => val_main_v12 x2 x4 (ix3 b j d)) (fun k e => x7 (ix2 k e)) e := by
  pointwise [val_main_v47, Rows.times, Rows.dot]

theorem query_head_at (b : Fin 2) (s : Fin 16384) (h : Fin 4) (e : Fin 128) :
    val_main_v46 x0 x1 x3 x5 x6 (ix4 b s h e) = val_main_v45 x0 x1 x3 x5 x6 (ix3 b s ⟨h.val * 128 + e.val, by omega⟩) := by
  pointwise [val_main_v46]

theorem key_head_at (b : Fin 2) (j : Fin 256) (h : Fin 4) (e : Fin 128) :
    val_main_v50 x2 x4 x7 (ix4 b j h e) = val_main_v47 x2 x4 x7 (ix3 b j (Rows.keyCol ⟨h.val * 128 + e.val, by omega⟩)) := by
  pointwise [val_main_v50, val_main_v48, Rows.keyCol]

theorem value_head_at (b : Fin 2) (j : Fin 256) (h : Fin 4) (e : Fin 128) :
    val_main_v51 x2 x4 x7 (ix4 b j h e) = val_main_v47 x2 x4 x7 (ix3 b j (Rows.valueCol ⟨h.val * 128 + e.val, by omega⟩)) := by
  pointwise [val_main_v51, val_main_v49, Rows.valueCol]

theorem logit_at (b : Fin 2) (h : Fin 4) (s : Fin 16384) (j : Fin 256) :
    val_main_v55 x0 x1 x2 x3 x4 x5 x6 x7 (ix4 b h s j)
      = Ideal.div (∑ e : Fin 128, val_main_v46 x0 x1 x3 x5 x6 (ix4 b s h e) * val_main_v50 x2 x4 x7 (ix4 b j h e))
          (Ideal.sqrt (Ideal.ofBits FTy.f32 0x43000000#32)) := by
  pointwise [val_main_v55, val_main_v54, val_main_v53, val_main_v52, val_main_cst_8]

theorem fold_at (b : Fin 2) (h : Fin 4) (s : Fin 16384) :
    val_main_v56 x0 x1 x2 x3 x4 x5 x6 x7 (ix3 b h s) = Rows.top fun j => val_main_v55 x0 x1 x2 x3 x4 x5 x6 x7 (ix4 b h s j) :=
  reduce_at (val_main_v55 x0 x1 x2 x3 x4 x5 x6 x7) b h s

theorem top_at (b : Fin 2) (h : Fin 4) (s : Fin 16384) :
    val_main_v58 x0 x1 x2 x3 x4 x5 x6 x7 (ix3 b h s) = Rows.top fun j => val_main_v55 x0 x1 x2 x3 x4 x5 x6 x7 (ix4 b h s j) := by
  rw [val_main_v58_apply, val_main_v57_apply, val_main_cst_10_apply, fold_at]
  exact bot_max _

theorem exp_at (b : Fin 2) (h : Fin 4) (s : Fin 16384) (j : Fin 256) :
    val_main_v62 x0 x1 x2 x3 x4 x5 x6 x7 (ix4 b h s j)
      = Ideal.exp (val_main_v55 x0 x1 x2 x3 x4 x5 x6 x7 (ix4 b h s j) - val_main_v58 x0 x1 x2 x3 x4 x5 x6 x7 (ix3 b h s)) := by
  pointwise [val_main_v62, val_main_v61, val_main_v60, val_main_v59]

theorem mixed_at (b : Fin 2) (s : Fin 16384) (h : Fin 4) (e : Fin 128) :
    val_main_v68 x0 x1 x2 x3 x4 x5 x6 x7 (ix4 b s h e)
      = ∑ j : Fin 256, val_main_v51 x2 x4 x7 (ix4 b j h e) * Ideal.div (val_main_v62 x0 x1 x2 x3 x4 x5 x6 x7 (ix4 b h s j))
          (∑ i : Fin 256, val_main_v62 x0 x1 x2 x3 x4 x5 x6 x7 (ix4 b h s i)) := by
  pointwise [val_main_v68, val_main_v67, val_main_v66, val_main_v65, val_main_v64, val_main_v63, val_main_cst_11]

theorem flat_at (b : Fin 2) (s : Fin 16384) (e : Fin 512) :
    val_main_v69 x0 x1 x2 x3 x4 x5 x6 x7 (ix3 b s e) = val_main_v68 x0 x1 x2 x3 x4 x5 x6 x7 (ix4 b s ⟨e.val / 128, by omega⟩ ⟨e.val % 128, by omega⟩) := by
  pointwise [val_main_v69]

theorem attention_at (b : Fin 2) (s : Fin 16384) (e : Fin 512) :
    val_main_v69 x0 x1 x2 x3 x4 x5 x6 x7 (ix3 b s e) = Rows.attend (fun e => val_main_v45 x0 x1 x3 x5 x6 (ix3 b s e))
      (fun j e => val_main_v47 x2 x4 x7 (ix3 b j (Rows.keyCol e))) (fun j e => val_main_v47 x2 x4 x7 (ix3 b j (Rows.valueCol e))) e := by
  have hz (j : Fin 256) : val_main_v55 x0 x1 x2 x3 x4 x5 x6 x7 (ix4 b ⟨e.val / 128, by omega⟩ s j)
      = Rows.logit (fun e => val_main_v45 x0 x1 x3 x5 x6 (ix3 b s e)) (fun e => val_main_v47 x2 x4 x7 (ix3 b j (Rows.keyCol e))) e := by
    refine (logit_at _ _ _ _ _ _ _ _ b _ s j).trans ((scaled _).trans ?_)
    simp only [query_head_at, key_head_at]
    rfl
  rw [flat_at, mixed_at]
  simp only [exp_at, top_at, hz, value_head_at]
  unfold Rows.attend Rows.mix
  refine Finset.sum_congr (M := EReal) rfl fun j _ => (mul_comm _ _).trans ?_
  refine congrArg₂ (· * ·) rfl (congrArg (fun e => val_main_v47 x2 x4 x7 (ix3 b j (Rows.valueCol e))) (Fin.ext ?_))
  show e.val / 128 * 128 + e.val % 128 = e.val
  omega

theorem attention_out_at (b : Fin 2) (s : Fin 16384) (d : Fin 2048) :
    val_main_v70 x0 x1 x2 x3 x4 x5 x6 x7 x8 (ix3 b s d) = Rows.times (fun e => val_main_v69 x0 x1 x2 x3 x4 x5 x6 x7 (ix3 b s e)) (fun e d => x8 (ix2 e d)) d := by
  pointwise [val_main_v70, Rows.times, Rows.dot]

theorem after_attention_at (b : Fin 2) (s : Fin 16384) (d : Fin 2048) :
    val_main_v86 x0 x1 x2 x3 x4 x5 x6 x7 x8 (ix3 b s d) = Rows.normAdd (fun d => val_main_v29 x0 x1 x3 x5 (ix3 b s d)) (fun d => val_main_v70 x0 x1 x2 x3 x4 x5 x6 x7 x8 (ix3 b s d)) (fun d => x3 (ix2 3 d)) d := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_cst_12, val_main_cst_13, val_main_cst_14, Rows.normAdd, Rows.norm]

theorem pre_ffn_at (b : Fin 2) (s : Fin 16384) (d : Fin 2048) :
    val_main_v101 x0 x1 x2 x3 x4 x5 x6 x7 x8 (ix3 b s d) = Rows.norm (fun d => val_main_v86 x0 x1 x2 x3 x4 x5 x6 x7 x8 (ix3 b s d)) (fun d => x3 (ix2 4 d)) d := by
  pointwise [val_main_v101, val_main_v100, val_main_v99, val_main_v98, val_main_v97, val_main_v96, val_main_v95, val_main_v94, val_main_v93, val_main_v92, val_main_v91, val_main_v90, val_main_v89, val_main_v88, val_main_v87, val_main_cst_15, val_main_cst_16, val_main_cst_17, Rows.norm]

theorem gated_at (b : Fin 2) (s : Fin 16384) (j : Fin 5632) :
    val_main_v106 x0 x1 x2 x3 x4 x5 x6 x7 x8 x9 (ix3 b s j) = Rows.gated (fun d => val_main_v101 x0 x1 x2 x3 x4 x5 x6 x7 x8 (ix3 b s d)) (fun k j => x9 (ix2 k j)) j := by
  pointwise [val_main_v106, val_main_v105, val_main_v104, val_main_v103, val_main_v102, val_main_call0_v5, val_main_call0_v4, val_main_call0_cst_0, val_main_call0_v3, val_main_call0_v2, val_main_call0_cst, val_main_call0_v1, val_main_call0_v0, Rows.gated, Rows.silu, Rows.dot, Rows.left, Rows.right]

theorem down_at (b : Fin 2) (s : Fin 16384) (d : Fin 2048) :
    val_main_v107 x0 x1 x2 x3 x4 x5 x6 x7 x8 x9 x10 (ix3 b s d) = Rows.times (fun j => val_main_v106 x0 x1 x2 x3 x4 x5 x6 x7 x8 x9 (ix3 b s j)) (fun j d => x10 (ix2 j d)) d := by
  pointwise [val_main_v107, Rows.times, Rows.dot]

theorem after_ffn_at (b : Fin 2) (s : Fin 16384) (d : Fin 2048) :
    val_main_v123 x0 x1 x2 x3 x4 x5 x6 x7 x8 x9 x10 (ix3 b s d) = Rows.normAdd (fun d => val_main_v86 x0 x1 x2 x3 x4 x5 x6 x7 x8 (ix3 b s d)) (fun d => val_main_v107 x0 x1 x2 x3 x4 x5 x6 x7 x8 x9 x10 (ix3 b s d)) (fun d => x3 (ix2 5 d)) d := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_cst_18, val_main_cst_19, val_main_cst_20, Rows.normAdd, Rows.norm]

theorem result_at (b : Fin 2) (s : Fin 16384) (d : Fin 2048) :
    val_main_v123 x0 x1 x2 x3 x4 x5 x6 x7 x8 x9 x10 (ix3 b s d)
      = Rows.afterFfn (Rows.afterAttention (Rows.normAdd (fun d => x1 (ix3 b s d)) (Rows.times (fun k => x0 (ix3 b s k)) fun k d => x5 (ix2 k d))
          fun d => x3 (ix2 1 d)) (fun j d => x2 (ix3 b j d)) (fun k d => x3 (ix2 k d)) (fun d => x4 (ix1 d)) (fun k e => x6 (ix2 k e))
          (fun k e => x7 (ix2 k e)) fun e d => x8 (ix2 e d)) (fun k d => x3 (ix2 k d)) (fun k j => x9 (ix2 k j)) (fun j d => x10 (ix2 j d)) d := by
  rw [after_ffn_at]
  simp only [down_at, gated_at, pre_ffn_at, after_attention_at, attention_out_at, attention_at, key_value_at, query_at, pre_attention_at,
    after_mixer_at, mixer_out_at, memory_at]
  rfl

end Cert.Reference2Ideal.Tail

end
-- ==== Proof.PoolSums.lean ====
/-
  Trailing windows of a sequence, and the differences of prefix sums that they are.
-/
module

public import Idealize.ShloMosaic.PureOps
public import Idealize.ShloMosaic.Lib.Pointwise

@[expose] public section

noncomputable section

open Idealize.ShloMosaic

namespace Cert.Pool

/-- The entry `k` places before place `s`, zero before the start. -/
def past (f : Nat → EReal) (s k : Nat) : EReal := if k ≤ s then f (s - k) else 0

/-- The sum of the last `n` entries up to place `s`. -/
def window (f : Nat → EReal) (s n : Nat) : EReal := ∑ k ∈ Finset.range n, past f s k

/-- The sum of the first `n` entries. -/
def total (f : Nat → EReal) (n : Nat) : EReal := ∑ k ∈ Finset.range n, f k

/-- The sum of the entries older than the last `n`. -/
def older (f : Nat → EReal) (s n : Nat) : EReal := if n ≤ s then total f (s - n + 1) else 0

theorem total_succ (f : Nat → EReal) (n : Nat) : total f (n + 1) = total f n + f n := Finset.sum_range_succ _ _

theorem older_eq (f : Nat → EReal) (s n : Nat) : older f s n = past f s n + older f s (n + 1) := by
  unfold older past
  by_cases h : n ≤ s
  · rw [if_pos h, if_pos h, total_succ, add_comm]
    by_cases h' : n + 1 ≤ s
    · rw [if_pos h', show s - (n + 1) + 1 = s - n by omega]
    · rw [if_neg h', show s - n = 0 by omega]
      rfl
  · rw [if_neg h, if_neg h, if_neg (by omega), add_zero]

/-- The last `n` entries and the older ones are all the entries so far. -/
theorem window_add_older (f : Nat → EReal) (s n : Nat) : window f s n + older f s n = total f (s + 1) := by
  induction n with
  | zero =>
    unfold window older
    rw [Finset.range_zero, Finset.sum_empty, zero_add, if_pos (Nat.zero_le _)]
    rfl
  | succ n ih =>
    rw [← ih, older_eq f s n]
    unfold window
    rw [Finset.sum_range_succ, add_assoc]

theorem total_finite (f : Nat → EReal) (hf : ∀ i, ∃ r : ℝ, f i = r) (n : Nat) : ∃ r : ℝ, total f n = r := by
  induction n with
  | zero => exact ⟨0, rfl⟩
  | succ n ih =>
    obtain ⟨a, ha⟩ := ih
    obtain ⟨b, hb⟩ := hf n
    exact ⟨a + b, by rw [total_succ, ha, hb, EReal.coe_add]⟩

theorem older_finite (f : Nat → EReal) (hf : ∀ i, ∃ r : ℝ, f i = r) (s n : Nat) : ∃ r : ℝ, older f s n = r := by
  unfold older
  split
  · exact total_finite f hf _
  · exact ⟨0, rfl⟩

/-- A difference of prefix sums of finite entries is the window between them. -/
theorem total_sub_older (f : Nat → EReal) (hf : ∀ i, ∃ r : ℝ, f i = r) (s n : Nat) :
    total f (s + 1) - older f s n = window f s n := by
  obtain ⟨r, hr⟩ := older_finite f hf s n
  rw [← window_add_older f s n, hr]
  exact EReal.add_sub_cancel_right

/-- The sum over a padded window that ends at place `s` is a prefix sum. -/
theorem sum_padded (f : Nat → EReal) (W s : Nat) (h : s ≤ W) :
    ∑ w ∈ Finset.range (W + 1), (if W ≤ s + w then f (s + w - W) else 0) = total f (s + 1) := by
  rw [show W + 1 = (W - s) + (s + 1) by omega, Finset.sum_range_add]
  rw [Finset.sum_eq_zero fun w hw => if_neg (by have := Finset.mem_range.1 hw; omega), zero_add]
  refine Finset.sum_congr rfl fun w _ => ?_
  rw [if_pos (by omega), show s + (W - s + w) - W = w by omega]

/-- One column of one batch row, as a sequence. -/
def seq (x : (⟨3, ![2, 16384, 2048]⟩ : Shape).Idx → EReal) (b : Fin 2) (e : Fin 2048) (n : Nat) : EReal :=
  if h : n < 16384 then x (ix3 b ⟨n, h⟩ e) else 0

/-- Column `c` of group `g`. -/
def column (g : Fin 4) (c : Fin 512) : Fin 2048 := ⟨g.val * 512 + c.val, by omega⟩

/-- The window of each group. -/
def size (g : Fin 4) : Nat := if g.val = 0 then 2 else if g.val = 1 then 4 else if g.val = 2 then 8 else 16

/-- How many entries a window of `n` holds at place `s`. -/
def count (s n : Nat) : EReal :=
  FloatOps.sitofp (F := Ideal) .f32 (IntOp.minsi (IntOp.addi (BitVec.ofNat 32 s) 1#32) (BitVec.ofNat 32 n))

/-- The mean of the last `n` entries, less the entry itself. -/
def mean (f : Nat → EReal) (s n : Nat) : EReal := Ideal.div (window f s n) (count s n) - f s

/-- A column's group, -/
def group (e : Fin 2048) : Fin 4 := ⟨e.val / 512, by omega⟩

/-- and its place in it. -/
def lane (e : Fin 2048) : Fin 512 := ⟨e.val % 512, by omega⟩

theorem column_group (e : Fin 2048) : column (group e) (lane e) = e := Fin.ext (by show e.val / 512 * 512 + e.val % 512 = e.val; omega)

theorem group_column (g : Fin 4) (d : Fin 512) : group (column g d) = g := Fin.ext (by show (g.val * 512 + d.val) / 512 = g.val; omega)

theorem lane_column (g : Fin 4) (d : Fin 512) : lane (column g d) = d := Fin.ext (by show (g.val * 512 + d.val) % 512 = d.val; omega)

/-- A pooled group times its matrix, scaled. -/
def mixed (f : Fin 2048 → Nat → EReal) (w : Fin 4 → Fin 512 → Fin 512 → EReal) (scale : Fin 2048 → EReal) (s : Nat) (e : Fin 2048) : EReal :=
  (∑ c : Fin 512, mean (f (column (group e) c)) s (size (group e)) * w (group e) c (lane e)) * scale e

end Cert.Pool
-- ==== Proof.PoolBlock.lean ====
/-
  What the pooling mixer's body stores.
-/
module

public import proofs.«01_k».proof.Proof.Gen.Kernel4Ideal.Frame
public import proofs.«01_k».proof.Proof.PoolSums
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.Kernel4Ideal.Pool
open Cert.Kernel4Ideal Cert.Kernel4Ideal.Gen

variable (xs : Vec Ideal S1x512x2048 .f32) (hs : Vec Ideal S1x16x2048 .f32) (ws : Vec Ideal S4x512x512 .bf16) (sc : Vec Ideal S1x2048 .f32)

theorem inb_x (g : Fin 4) : ∀ a, (![0, 0, 512 * g.val] : Fin 3 → ℕ) a + (![1, 512, 512] : Fin 3 → ℕ) a ≤ S1x512x2048.size a := by
  decide +revert
theorem inb_h (g : Fin 4) : ∀ a, (![0, 0, 512 * g.val] : Fin 3 → ℕ) a + (![1, 16, 512] : Fin 3 → ℕ) a ≤ S1x16x2048.size a := by
  decide +revert
theorem inb_w (g : Fin 4) : ∀ a, (![g.val, 0, 0] : Fin 3 → ℕ) a + (![1, 512, 512] : Fin 3 → ℕ) a ≤ S4x512x512.size a := by
  decide +revert
theorem inb_s (g : Fin 4) : ∀ a, (![0, 512 * g.val] : Fin 2 → ℕ) a + (![1, 512] : Fin 2 → ℕ) a ≤ S1x2048.size a := by
  decide +revert

/-- The padded rows from row `a` on: sixteen of the halo, then the block's. -/
def shifted (X : FVec Ideal S512x512 .f32) (H : FVec Ideal S16x512 .f32) (a : Nat) : FVec Ideal S512x512 .f32 := fun j =>
  if 16 ≤ (j 0).val + a then X (ix2 ⟨((j 0).val + a - 16) % 512, Nat.mod_lt _ (by decide)⟩ (j 1))
  else H (ix2 ⟨((j 0).val + a) % 16, Nat.mod_lt _ (by decide)⟩ (j 1))

/-- A load of 512 rows of the padded scratch after the stores of its two parts. -/
theorem readCov_shifted {sig' : RefSig} {κ : Kind} {sp : Space} (v : View sig' κ sp S528x512 .f32) (X : Vec Ideal S512x512 .f32)
    (H : Vec Ideal S16x512 .f32) (L : List (View.Piece (Elt Ideal) S528x512 .f32)) (a : Nat) (i1 i2 inb) :
    v.readCov ((⟨Rect.unit ![16, 0] S512x512.size i1, X⟩ : View.Piece (Elt Ideal) S528x512 .f32)
        :: (⟨Rect.unit ![0, 0] S16x512.size i2, H⟩ : View.Piece (Elt Ideal) S528x512 .f32) :: L)
      (Rect.unit (s := S528x512) ![a, 0] S512x512.size inb).toLoadRect = shifted X H a := by
  have ha : a + 512 ≤ 528 := inb 0
  rw [View.readCov_eq_canon']
  funext j
  idx_vars j
  have hp : (Rect.unit (s := S528x512) ![a, 0] S512x512.size inb).toLoadRect.idx (ix2 j0 j1) = ix2 (⟨a + j0.val, by omega⟩ : Fin 528) j1 := by
    refine funext fun x => Fin.ext ?_
    match x with
    | ⟨0, _⟩ => show a + 1 * j0.val = a + j0.val; omega
    | ⟨1, _⟩ => show 0 + 1 * j1.val = j1.val; omega
  show View.canon _ _ = if 16 ≤ j0.val + a then X (ix2 ⟨(j0.val + a - 16) % 512, Nat.mod_lt _ (by decide)⟩ j1)
    else H (ix2 ⟨(j0.val + a) % 16, Nat.mod_lt _ (by decide)⟩ j1)
  rw [hp]
  by_cases h : 16 ≤ j0.val + a
  · rw [if_pos h]
    have hq : (Rect.unit (s := S528x512) ![16, 0] S512x512.size i1).emb (ix2 (⟨(j0.val + a - 16) % 512, Nat.mod_lt _ (by decide)⟩ : Fin 512) j1)
        = ix2 (⟨a + j0.val, by omega⟩ : Fin 528) j1 := by
      refine funext fun x => Fin.ext ?_
      match x with
      | ⟨0, _⟩ => show 16 + 1 * ((j0.val + a - 16) % 512) = a + j0.val; omega
      | ⟨1, _⟩ => show 0 + 1 * j1.val = j1.val; omega
    rw [← hq]
    exact View.canon_cons_emb (Val := Elt Ideal) (e := .f32) (Rect.unit (s := S528x512) ![16, 0] S512x512.size i1) X _ _
  · rw [if_neg h]
    have hq : (Rect.unit (s := S528x512) ![0, 0] S16x512.size i2).emb (ix2 (⟨(j0.val + a) % 16, Nat.mod_lt _ (by decide)⟩ : Fin 16) j1)
        = ix2 (⟨a + j0.val, by omega⟩ : Fin 528) j1 := by
      refine funext fun x => Fin.ext ?_
      match x with
      | ⟨0, _⟩ => show 0 + 1 * ((j0.val + a) % 16) = a + j0.val; omega
      | ⟨1, _⟩ => show 0 + 1 * j1.val = j1.val; omega
    rw [View.canon_cons_of_not_mem _ _ (by
      rw [Rect.mem_set_unit]
      intro hm
      have hm0 : 16 ≤ a + j0.val := (hm 0).1
      omega), ← hq]
    exact View.canon_cons_emb (Val := Elt Ideal) (e := .f32) (Rect.unit (s := S528x512) ![0, 0] S16x512.size i2) H _ _

/-- A group's columns of the block. -/
def own (g : Fin 4) : FVec Ideal S512x512 .f32 :=
  shapeCast S512x512 (View.ld (Val := Elt Ideal) (e' := .f32) xs (Rect.unit ![0, 0, 512 * g.val] S1x512x512.size (inb_x g)) : FVec Ideal S1x512x512 .f32) shapeCasts_S1x512x512_S512x512

/-- A group's columns of the sixteen rows before it, zero before the start. -/
def halo (i : grid0.Coords) (g : Fin 4) : FVec Ideal S16x512 .f32 :=
  Scalar.select (Scalar.cmpi .eq (BitVec.ofNat 32 (i 1).val) 0#32) (broadcast S16x512 (Scalar.ofBits .f32 0x00000000#32))
    (shapeCast S16x512 (View.ld (Val := Elt Ideal) (e' := .f32) hs (Rect.unit ![0, 0, 512 * g.val] S1x16x512.size (inb_h g)) : FVec Ideal S1x16x512 .f32) shapeCasts_S1x16x512_S16x512)

/-- The scratch's first rows that a group's window reads. -/
def firsts (g : Fin 4) : List Nat :=
  if g.val = 0 then [15] else if g.val = 1 then [15, 14, 13] else if g.val = 2 then [15, 14, 13, 12, 11, 10, 9]
  else [15, 14, 13, 12, 11, 10, 9, 8, 7, 6, 5, 4, 3, 2, 1]

/-- A group's window sums. -/
def windows (i : grid0.Coords) (g : Fin 4) : FVec Ideal S512x512 .f32 :=
  (firsts g).foldl (fun s a => addf s (shifted (shapeCast S512x512 (own xs g) shapeCasts_S512x512_S512x512)
    (shapeCast S16x512 (halo hs i g) shapeCasts_S16x512_S16x512) a)) (own xs g)

/-- A group's means less its entries. -/
def pooled (i : grid0.Coords) (g : Fin 4) : FVec Ideal S512x512 .f32 :=
  subf (divf (windows xs hs i g) (broadcastTo S512x512 (sitofp .f32 (minsi (addi (k0_pay2 i) (broadcast S512x1 1#32))
    (broadcast S512x1 (BitVec.ofNat 32 (Pool.size g)))) : FVec Ideal S512x1 .f32) broadcasts_S512x1_S512x512)) (own xs g)

/-- A group's matrix. -/
def weights (g : Fin 4) : FVec Ideal S512x512 .bf16 :=
  shapeCast S512x512 (View.ld (Val := Elt Ideal) (e' := .bf16) ws (Rect.unit ![g.val, 0, 0] S1x512x512.size (inb_w g)) : FVec Ideal S1x512x512 .bf16) shapeCasts_S1x512x512_S512x512

/-- A group's stored block. -/
def stored (i : grid0.Coords) (g : Fin 4) : FVec Ideal S1x512x512 .f32 :=
  shapeCast S1x512x512 (mulf (matmul dot_S512x512_S512x512_S512x512_1_0_0_1_n_n none (truncf .bf16 (pooled xs hs i g) bitsLt_bf16_f32)
      (weights ws g)
      (constant S512x512 .f32 0x00000000#32))
    (broadcastTo S512x512 (shapeCast S1x512 (View.ld (Val := Elt Ideal) (e' := .f32) sc (Rect.unit ![0, 512 * g.val] S1x512.size (inb_s g)) : FVec Ideal S1x512 .f32) shapeCasts_S1x512_S1x512)
      broadcasts_S1x512_S512x512)) shapeCasts_S512x512_S1x512x512

def piece (i : grid0.Coords) (g : Fin 4) : View.Piece (Elt Ideal) S1x512x2048 .f32 :=
  ⟨Rect.unit ![0, 0, 512 * g.val] ![1, 512, 512] (inb_x g), stored xs hs ws sc i g⟩

variable (c : Dev nD) (i : grid0.Coords) (a2 : Memref sig .tc .vmem S1x512x2048 .f32) (h2 : a2.IsWhole) (a3 : Memref sig .tc .vmem S1x16x2048 .f32)
  (h3 : a3.IsWhole) (a4 : Memref sig .tc .vmem S4x512x512 .bf16) (h4 : a4.IsWhole) (a5 : Memref sig .tc .vmem S1x2048 .f32) (h5 : a5.IsWhole)
  (a6 : Memref sig .tc .vmem S1x512x2048 .f32) (h6 : a6.IsWhole) (a7 : Memref sig .tc .vmem S528x512 .f32) (h7 : a7.IsWhole)

theorem blockA :
   (kernelRun0_A (F := Ideal) c i a2 h2 a3 h3 a4 h4 a5 h5 a6 h6 a7 h7 xs hs ws sc).1 = ([3, 2, 1, 0] : List (Fin 4)).map (piece xs hs ws sc i) := by
  unfold kernelRun0_A
  dsimp only
  sl_unfold_words
  simp only [View.readAt_eq_ld, h2.read_unread, h3.read_unread, h4.read_unread, h5.read_unread]
  have e (X : Vec Ideal S512x512 .f32) (H : Vec Ideal S16x512 .f32) (L : List (View.Piece (Elt Ideal) S528x512 .f32)) (a : Nat) (i1 i2 inb) :
    a7.view.readCov ((⟨Rect.unit ![16, 0] ![512, 512] i1, X⟩ : View.Piece (Elt Ideal) S528x512 .f32)
        :: (⟨Rect.unit ![0, 0] ![16, 512] i2, H⟩ : View.Piece (Elt Ideal) S528x512 .f32) :: L)
      (Rect.unit ![a, 0] ![512, 512] inb).toLoadRect = shifted X H a := readCov_shifted _ X H L a i1 i2 inb
  simp only [e]
  refine congrArg₂ List.cons ?_ (congrArg₂ List.cons ?_ (congrArg₂ List.cons ?_ (congrArg₂ List.cons ?_ rfl)))
  · refine congrArg (Sigma.mk (Rect.unit (s := S1x512x2048) ![0, 0, 1536] ![1, 512, 512] (inb_x 3))) ?_
    rfl
  · refine congrArg (Sigma.mk (Rect.unit (s := S1x512x2048) ![0, 0, 1024] ![1, 512, 512] (inb_x 2))) ?_
    rfl
  · refine congrArg (Sigma.mk (Rect.unit (s := S1x512x2048) ![0, 0, 512] ![1, 512, 512] (inb_x 1))) ?_
    rfl
  · refine congrArg (Sigma.mk (Rect.unit (s := S1x512x2048) ![0, 0, 0] ![1, 512, 512] (inb_x 0))) ?_
    rfl

theorem cast_block (X : FVec Ideal S1x512x512 .f32) (r d : Fin 512) :
    shapeCast S512x512 X shapeCasts_S1x512x512_S512x512 (ix2 r d) = X (ix3 0 r d) := by
  pointwise

theorem cast_halo (X : FVec Ideal S1x16x512 .f32) (r : Fin 16) (d : Fin 512) :
    shapeCast S16x512 X shapeCasts_S1x16x512_S16x512 (ix2 r d) = X (ix3 0 r d) := by
  pointwise

theorem own_col (g : Fin 4) (r d : Fin 512) : own xs g (ix2 r d) = xs (ix3 0 r (Pool.column g d)) := by
  refine (cast_block _ r d).trans (congrArg xs (funext fun a => Fin.ext ?_))
  match a with
  | ⟨0, _⟩ => rfl
  | ⟨1, _⟩ => show 0 + 1 * r.val = r.val; omega
  | ⟨2, _⟩ => show 512 * g.val + 1 * d.val = g.val * 512 + d.val; omega

theorem halo_col (g : Fin 4) (r : Fin 16) (d : Fin 512) :
    (shapeCast S16x512 (View.ld (Val := Elt Ideal) (e' := .f32) hs (Rect.unit ![0, 0, 512 * g.val] S1x16x512.size (inb_h g)) : FVec Ideal S1x16x512 .f32)
      shapeCasts_S1x16x512_S16x512) (ix2 r d) = hs (ix3 0 r (Pool.column g d)) := by
  refine (cast_halo _ r d).trans (congrArg hs (funext fun a => Fin.ext ?_))
  match a with
  | ⟨0, _⟩ => rfl
  | ⟨1, _⟩ => show 0 + 1 * r.val = r.val; omega
  | ⟨2, _⟩ => show 512 * g.val + 1 * d.val = g.val * 512 + d.val; omega

/-! ## Its entries, where the block and its halo are parts of sequences -/

section Value

variable (F : Fin 2048 → Nat → EReal)
  (hx : ∀ (e : Fin 2048) (r : Fin 512), xs (ix3 0 r e) = F e ((i 1).val * 512 + r.val))
  (hh : ∀ (e : Fin 2048) (r : Fin 16), 0 < (i 1).val → hs (ix3 0 r e) = F e ((i 1).val * 512 + r.val - 16))

include hx in
theorem own_at (g : Fin 4) (r d : Fin 512) : own xs g (ix2 r d) = F (Pool.column g d) ((i 1).val * 512 + r.val) := by
  exact (own_col xs g r d).trans (hx (Pool.column g d) r)

theorem first_point (n : Nat) (h : n < 32) : Scalar.cmpi .eq (BitVec.ofNat 32 n) 0#32 = if n = 0 then 1#1 else 0#1 := by
  decide +revert

include hh in
theorem halo_at (g : Fin 4) (r : Fin 16) (d : Fin 512) :
    halo hs i g (ix2 r d) = if (i 1).val = 0 then 0 else F (Pool.column g d) ((i 1).val * 512 + r.val - 16) := by
  have hi : (i 1).val < 32 := (i 1).isLt
  unfold halo
  rw [first_point _ hi]
  by_cases h : (i 1).val = 0
  · rw [if_pos h, if_pos h]
    unfold Scalar.select
    rw [if_pos (by decide)]
    pointwise
  · rw [if_neg h, if_neg h, ← hh _ _ (by omega)]
    unfold Scalar.select
    rw [if_neg (by decide)]
    exact halo_col hs g r d

include hx hh in
theorem shifted_at (g : Fin 4) (a k : Nat) (ha : a + k = 16) (hk : 0 < k) (r d : Fin 512) :
    shifted (shapeCast S512x512 (own xs g) shapeCasts_S512x512_S512x512) (shapeCast S16x512 (halo hs i g) shapeCasts_S16x512_S16x512) a (ix2 r d)
      = Pool.past (F (Pool.column g d)) ((i 1).val * 512 + r.val) k := by
  have hr := r.isLt
  have e1 (j) : shapeCast S512x512 (own xs g) shapeCasts_S512x512_S512x512 j = own xs g j := by
    idx_vars j
    pointwise
  have e2 (j) : shapeCast S16x512 (halo hs i g) shapeCasts_S16x512_S16x512 j = halo hs i g j := by
    idx_vars j
    pointwise
  unfold shifted Pool.past
  show (if 16 ≤ r.val + a then shapeCast S512x512 (own xs g) shapeCasts_S512x512_S512x512 (ix2 ⟨(r.val + a - 16) % 512, _⟩ d)
    else shapeCast S16x512 (halo hs i g) shapeCasts_S16x512_S16x512 (ix2 ⟨(r.val + a) % 16, _⟩ d)) = _
  by_cases h : 16 ≤ r.val + a
  · rw [if_pos h, if_pos (by omega), e1, own_at xs i F hx]
    exact congrArg (F _) (by show (i 1).val * 512 + (r.val + a - 16) % 512 = _; omega)
  · rw [if_neg h, e2, halo_at hs i F hh]
    by_cases h' : (i 1).val = 0
    · rw [if_pos h', if_neg (by omega)]
    · rw [if_neg h', if_pos (by omega)]
      exact congrArg (F _) (by show (i 1).val * 512 + (r.val + a) % 16 - 16 = _; omega)

theorem foldl_at (l : List Nat) (Y : Nat → FVec Ideal S512x512 .f32) (y : Nat → EReal) (j : S512x512.Idx) (h : ∀ a ∈ l, Y a j = y a)
    (Z : FVec Ideal S512x512 .f32) : l.foldl (fun s a => addf s (Y a)) Z j = l.foldl (fun s a => s + y a) (Z j : EReal) := by
  induction l generalizing Z with
  | nil => rfl
  | cons a l ih =>
    refine (ih (fun b hb => h b (List.mem_cons_of_mem _ hb)) _).trans ?_
    show l.foldl _ (Z j + Y a j : EReal) = _
    rw [h a (List.mem_cons_self ..)]
    rfl

theorem firsts_bound (g : Fin 4) : ∀ a ∈ firsts g, 0 < a ∧ a < 16 := by
  decide +revert

theorem fold_firsts (f : Nat → EReal) (s : Nat) (g : Fin 4) :
    (firsts g).foldl (fun t a => t + Pool.past f s (16 - a)) (f s) = Pool.window f s (Pool.size g) := by
  have h0 : f s = Pool.past f s 0 := by
    unfold Pool.past
    rw [if_pos (Nat.zero_le _), Nat.sub_zero]
  rw [h0]
  fin_cases g <;>
    simp [firsts, Pool.size, Pool.window, Finset.sum_range_succ]

include hx hh in
theorem windows_at (g : Fin 4) (r d : Fin 512) :
    windows xs hs i g (ix2 r d) = Pool.window (F (Pool.column g d)) ((i 1).val * 512 + r.val) (Pool.size g) := by
  unfold windows
  refine (foldl_at (firsts g) _ (fun a => Pool.past (F (Pool.column g d)) ((i 1).val * 512 + r.val) (16 - a)) _ (fun a ha => ?_) _).trans ?_
  · have hb := firsts_bound g a ha
    exact shifted_at xs hs i F hx hh g a (16 - a) (by omega) (by omega) r d
  · rw [own_at xs i F hx]
    exact fold_firsts _ _ g

theorem row_at (r : Fin 512) : k0_pay2 i (ix2 r (0 : Fin 1)) = BitVec.ofNat 32 ((i 1).val * 512 + r.val) := by
  refine Eq.trans (b := BitVec.ofNat 32 (i 1).val * BitVec.ofNat 32 512 + BitVec.ofNat 32 r.val) ?_ ?_
  · pointwise [k0_pay2]
    rfl
  · rw [BitVec.ofNat_add, BitVec.ofNat_mul]

include hx hh in
theorem pooled_at (g : Fin 4) (r d : Fin 512) :
    pooled xs hs i g (ix2 r d) = Pool.mean (F (Pool.column g d)) ((i 1).val * 512 + r.val) (Pool.size g) := by
  have e : pooled xs hs i g (ix2 r d) = Ideal.div (windows xs hs i g (ix2 r d))
      (FloatOps.sitofp (F := Ideal) .f32 (IntOp.minsi (IntOp.addi (k0_pay2 i (ix2 r (0 : Fin 1))) 1#32) (BitVec.ofNat 32 (Pool.size g))))
        - own xs g (ix2 r d) := by
    unfold pooled
    pointwise
  rw [e, windows_at xs hs i F hx hh, own_at xs i F hx, row_at]
  rfl

theorem weights_at (g : Fin 4) (k d : Fin 512) : weights ws g (ix2 k d) = ws (ix3 g k d) := by
  have e (X : FVec Ideal S1x512x512 .bf16) : shapeCast S512x512 X shapeCasts_S1x512x512_S512x512 (ix2 k d) = X (ix3 0 k d) := by
    pointwise
  refine (e _).trans (congrArg ws (funext fun a => Fin.ext ?_))
  match a with
  | ⟨0, _⟩ => show g.val + 1 * 0 = g.val; omega
  | ⟨1, _⟩ => show 0 + 1 * k.val = k.val; omega
  | ⟨2, _⟩ => show 0 + 1 * d.val = d.val; omega

theorem scale_at (g : Fin 4) (d : Fin 512) :
    (shapeCast S1x512 (View.ld (Val := Elt Ideal) (e' := .f32) sc (Rect.unit ![0, 512 * g.val] S1x512.size (inb_s g)) : FVec Ideal S1x512 .f32)
      shapeCasts_S1x512_S1x512) (ix2 (0 : Fin 1) d) = sc (ix2 0 (Pool.column g d)) := by
  have e (X : FVec Ideal S1x512 .f32) : shapeCast S1x512 X shapeCasts_S1x512_S1x512 (ix2 (0 : Fin 1) d) = X (ix2 0 d) := by
    pointwise
  refine (e _).trans (congrArg sc (funext fun a => Fin.ext ?_))
  match a with
  | ⟨0, _⟩ => rfl
  | ⟨1, _⟩ => show 512 * g.val + 1 * d.val = g.val * 512 + d.val; omega

include hx hh in
theorem stored_at (g : Fin 4) (r d : Fin 512) :
    stored xs hs ws sc i g (ix3 0 r d) = (∑ k : Fin 512, Pool.mean (F (Pool.column g k)) ((i 1).val * 512 + r.val) (Pool.size g) * ws (ix3 g k d))
      * sc (ix2 0 (Pool.column g d)) := by
  have e (P : FVec Ideal S512x512 .f32) (W : FVec Ideal S512x512 .bf16) (C : FVec Ideal S1x512 .f32) :
      shapeCast S1x512x512 (mulf (matmul dot_S512x512_S512x512_S512x512_1_0_0_1_n_n none (truncf .bf16 P bitsLt_bf16_f32) W
        (constant S512x512 .f32 0x00000000#32)) (broadcastTo S512x512 C broadcasts_S1x512_S512x512)) shapeCasts_S512x512_S1x512x512 (ix3 0 r d)
      = (∑ k : Fin 512, (P (ix2 r k) : EReal) * W (ix2 k d)) * C (ix2 0 d) := by
    pointwise
  unfold stored
  rw [e, scale_at]
  simp only [pooled_at xs hs i F hx hh, weights_at]

include hx hh in
theorem piece_at (g : Fin 4) (x : S1x512x512.Idx) :
    stored xs hs ws sc i g x = (fun y : S1x512x2048.Idx => Pool.mixed F (fun g c d => ws (ix3 g c d)) (fun e => sc (ix2 0 e)) ((i 1).val * 512 + (y 1).val) (y 2))
      ((Rect.unit (s := S1x512x2048) ![0, 0, 512 * g.val] ![1, 512, 512] (inb_x g)).emb x) := by
  idx_vars x
  have h0 : x0 = 0 := by omega
  subst h0
  refine (stored_at xs hs ws sc i F hx hh g x1 x2).trans ?_
  have e1 : (Rect.unit (s := S1x512x2048) ![0, 0, 512 * g.val] ![1, 512, 512] (inb_x g)).emb (ix3 0 x1 x2) = ix3 0 x1 (Pool.column g x2) := by
    refine funext fun a => Fin.ext ?_
    match a with
    | ⟨0, _⟩ => rfl
    | ⟨1, _⟩ => show 0 + 1 * x1.val = x1.val; omega
    | ⟨2, _⟩ => show 512 * g.val + 1 * x2.val = g.val * 512 + x2.val; omega
  rw [e1]
  show _ = Pool.mixed F (fun g c d => ws (ix3 g c d)) (fun e => sc (ix2 0 e)) ((i 1).val * 512 + x1.val) (Pool.column g x2)
  unfold Pool.mixed
  rw [Pool.group_column, Pool.lane_column]

include hx hh in
theorem block_value (y : S1x512x2048.Idx) :
    out0_A_4 c i a2 h2 a3 h3 a4 h4 a5 h5 a6 h6 a7 h7 xs hs ws sc y
      = Pool.mixed F (fun g c d => ws (ix3 g c d)) (fun e => sc (ix2 0 e)) ((i 1).val * 512 + (y 1).val) (y 2) := by
  unfold out0_A_4
  rw [View.read_writes_junk_eq_canon]
  refine View.canon_apply_of_pieces (fun y : S1x512x2048.Idx => Pool.mixed F (fun g c d => ws (ix3 g c d)) (fun e => sc (ix2 0 e)) ((i 1).val * 512 + (y 1).val) (y 2)) _ ?_ y
    (cover0_A_4 c i a2 h2 a3 h3 a4 h4 a5 h5 a6 h6 a7 h7 xs hs ws sc y)
  rw [blockA]
  intro p hp
  obtain ⟨g, -, rfl⟩ := List.mem_map.mp hp
  exact piece_at xs hs ws sc i F hx hh g

end Value

end Cert.Kernel4Ideal.Pool
-- ==== Proof.PoolArray.lean ====
/-
  The array the pooling mixer leaves.
-/
module

public import proofs.«01_k».proof.Proof.PoolBlock

@[expose] public section

set_option maxRecDepth 16384

noncomputable section

open Idealize.ShloMosaic Idealize.ShloMosaic.TcCoe Idealize.SL.Sem
open Idealize.ShloMosaic.Pipeline (Dat)

namespace Cert.Kernel4Ideal.Pool

open Cert.Kernel4Ideal Cert.Kernel4Ideal.Gen

variable (m : (ℓ : Loc nD τ sig) → Buf (Elt Ideal) ℓ)

/-- The windows' block numbers at every point: batch row, block of rows; the halo is the sixteen rows before the block. -/
theorem idx : ∀ t : Fin cfg0.N, win0_0.index t = ![t.val / 32, t.val % 32, 0]
    ∧ win0_1.index t = ![t.val / 32, t.val % 32 * 32 - 1, 0] ∧ win0_2.index t = ![0, 0, 0] ∧ win0_3.index t = ![0, 0]
    ∧ win0_4.index t = ![t.val / 32, t.val % 32, 0] ∧ (grid0.coords t 1).val = t.val % 32 :=
  (by decide +kernel : ∀ t : Fin grid0.N, _)

theorem point_lt (t : Fin cfg0.N) : t.val < 64 := lt_of_lt_of_eq t.isLt (show cfg0.N = 64 from N_0)

/-- The point's batch row, and the row its block starts from. -/
abbrev pb (t : Fin cfg0.N) : Fin 2 := ⟨t.val / 32, by have := point_lt t; omega⟩
abbrev pr (t : Fin cfg0.N) (r : Fin 512) : Fin 16384 := ⟨t.val % 32 * 512 + r.val, by omega⟩

theorem matrices_entry (c : Dev nD) (g : Fin 4) (k d : Fin 512) :
    V m c main_v0 (ix3 g k d) = m ((c : Thread nD τ).loc main_arg1) (ix3 g k d) := by
  show StableHlo.after hostOps0 _ _ _ = _
  unfold_abbrev_sides
  after_results
  pointwise

theorem scale_entry (c : Dev nD) (e : Fin 2048) :
    V m c main_v1 (ix2 0 e) = m ((c : Thread nD τ).loc main_arg2) (ix1 e) := by
  show StableHlo.after hostOps0 _ _ _ = _
  unfold_abbrev_sides
  after_results
  pointwise

theorem rows_at (c : Dev nD) (t : Fin cfg0.N) (e : Fin 2048) (r : Fin 512) :
    iblk m c 0 t (ix3 0 r e) = Pool.seq (m ((c : Thread nD τ).loc main_arg0)) (pb t) e ((grid0.coords t 1).val * 512 + r.val) := by
  have ht := point_lt t
  have hr := r.isLt
  rw [(idx t).2.2.2.2.2]
  unfold Pool.seq
  rw [dif_pos (by omega), ← V_main_arg0 m c]
  blk_ext [iblk, idx t]

theorem halo_rows_at (c : Dev nD) (t : Fin cfg0.N) (e : Fin 2048) (r : Fin 16) (h : 0 < (grid0.coords t 1).val) :
    iblk m c 1 t (ix3 0 r e) = Pool.seq (m ((c : Thread nD τ).loc main_arg0)) (pb t) e ((grid0.coords t 1).val * 512 + r.val - 16) := by
  have ht := point_lt t
  have hr := r.isLt
  rw [(idx t).2.2.2.2.2] at h ⊢
  unfold Pool.seq
  rw [dif_pos (by omega), ← V_main_arg0 m c]
  blk_ext [iblk, idx t]

theorem matrices_at (c : Dev nD) (t : Fin cfg0.N) (g : Fin 4) (k d : Fin 512) :
    iblk m c 2 t (ix3 g k d) = m ((c : Thread nD τ).loc main_arg1) (ix3 g k d) := by
  refine Eq.trans ?_ (matrices_entry m c _ _ _)
  blk_ext [iblk, idx t]

theorem scales_at (c : Dev nD) (t : Fin cfg0.N) (e : Fin 2048) :
    iblk m c 3 t (ix2 0 e) = m ((c : Thread nD τ).loc main_arg2) (ix1 e) := by
  refine Eq.trans ?_ (scale_entry m c _)
  blk_ext [iblk, idx t]

/-- What the kernel leaves, of the arguments' arrays. -/
def value (x0 : FVec Ideal S2x16384x2048 .f32) (x1 : FVec Ideal S4x512x512 .f32) (x2 : FVec Ideal S2048 .f32) (b : Fin 2) (s : Fin 16384) (e : Fin 2048) : EReal :=
  Pool.mixed (Pool.seq x0 b) (fun g c d => x1 (ix3 g c d)) (fun e => x2 (ix1 e)) s.val e

theorem left_at (c : Dev nD) (t : Fin cfg0.N) (y0 : Fin 1) (y1 : Fin 512) (y2 : Fin 2048) :
    outsAt0 m c t (ix3 y0 y1 y2) = value (m ((c : Thread nD τ).loc main_arg0)) (m ((c : Thread nD τ).loc main_arg1))
      (m ((c : Thread nD τ).loc main_arg2)) (pb t) (pr t y1) y2 := by
  unfold outsAt0
  refine (block_value _ _ _ _ c _ _ _ _ _ _ _ _ _ _ _ _ _ (Pool.seq (m ((c : Thread nD τ).loc main_arg0)) (pb t)) (rows_at m c t) (halo_rows_at m c t) _).trans ?_
  unfold value
  simp only [matrices_at, scales_at]
  rw [(idx t).2.2.2.2.2]
  rfl

theorem array_at (c : Dev nD) (i : S2x16384x2048.Idx) :
    (dats m 0 c).arrAt 4 (cfgs 0).N i
      = value (m ((c : Thread nD τ).loc main_arg0)) (m ((c : Thread nD τ).loc main_arg1)) (m ((c : Thread nD τ).loc main_arg2)) (i 0) (i 1) (i 2) := by
  refine (dats m 0 c).arrAt_forall_of_covers 4 (fun i v => v = value
    (m ((c : Thread nD τ).loc main_arg0)) (m ((c : Thread nD τ).loc main_arg1)) (m ((c : Thread nD τ).loc main_arg2))
    (i 0) (i 1) (i 2)) (by decide +kernel) (fun t hf y => ?_) i
  have ht := point_lt t
  blk_simp
  idx_vars y
  have e : ((View.whole main_v2).slice (win0_4.rect t)).emb (ix3 y0 y1 y2) = ix3 (pb t) (pr t y1) y2 := by
    blk_ext [idx t]
  refine Eq.trans ?_ (congrArg (fun i : S2x16384x2048.Idx => value (m ((c : Thread nD τ).loc main_arg0))
    (m ((c : Thread nD τ).loc main_arg1)) (m ((c : Thread nD τ).loc main_arg2)) (i 0) (i 1) (i 2)) e.symm)
  rw [after0_4]
  exact left_at m c t y0 y1 y2

end Cert.Kernel4Ideal.Pool

end
-- ==== Proof.PoolReference.lean ====
/-
  The reference of the pooling mixer: windows of the running sums.
-/
module

public import proofs.«01_k».proof.Proof.Gen.Reference4Ideal.Read
public import proofs.«01_k».proof.Proof.PoolSums
public import Idealize.ShloMosaic.Lib.ValueIdx
public import Idealize.ShloMosaic.Lib.Pointwise

@[expose] public section

set_option maxRecDepth 16384

noncomputable section

open Idealize.ShloMosaic

namespace Cert.Reference4Ideal.Pool

open Cert.Reference4Ideal Cert.Reference4Ideal.Gen Cert.Reference4Ideal.Read

variable (x0 : (⟨S2x16384x2048, .f32⟩ : BufTy).Contents (Elt Ideal))
  (x1 : (⟨S4x512x512, .f32⟩ : BufTy).Contents (Elt Ideal))
  (x2 : (⟨S2048, .f32⟩ : BufTy).Contents (Elt Ideal))

/-- Window positions of one sequence are its places. -/
def places (N : Nat) : (⟨4, ![1, N, 1, 1]⟩ : Shape).Idx ≃ Fin N where
  toFun w := ⟨(w 1).val, (w 1).isLt⟩
  invFun k := ix4 (0 : Fin 1) k (0 : Fin 1) (0 : Fin 1)
  left_inv w := funext fun a => Fin.ext (by
    match a with
    | ⟨0, _⟩ => show 0 = (w 0).val; have : (w 0).val < 1 := (w 0).isLt; omega
    | ⟨1, _⟩ => rfl
    | ⟨2, _⟩ => show 0 = (w 2).val; have : (w 2).val < 1 := (w 2).isLt; omega
    | ⟨3, _⟩ => show 0 = (w 3).val; have : (w 3).val < 1 := (w 3).isLt; omega)
  right_inv _ := rfl

theorem foldl_add {α : Type} (l : List α) (f : α → EReal) (v : EReal) :
    l.foldl (fun r n => r + f n) v = v + (l.map f).sum := by
  induction l generalizing v with
  | nil => simp
  | cons a l ih => simp [ih, add_assoc]

/-- What a window position adds: the entry under it, zero in the padding. -/
def padded {B W G C : Nat} (x : (⟨4, ![B, W + 1, G, C]⟩ : Shape).Idx → EReal) (j : (⟨4, ![B, W + 1, G, C]⟩ : Shape).Idx)
    (w : (⟨4, ![1, W + 1, 1, 1]⟩ : Shape).Idx) : EReal :=
  let p : Fin 4 → Nat := fun a => (j a).val * ![1, 1, 1, 1] a + (w a).val
  if hin : ∀ a, ![0, W, 0, 0] a ≤ p a ∧ p a - ![0, W, 0, 0] a < (⟨4, ![B, W + 1, G, C]⟩ : Shape).size a then
    x (fun a => ⟨p a - ![0, W, 0, 0] a, (hin a).2⟩)
  else 0

/-- A running sum along the second axis, as it prints. -/
theorem sums_at {B N W G C : Nat} (hN : W + 1 = N) (x : (⟨4, ![B, N, G, C]⟩ : Shape).Idx → EReal)
    (h : (⟨4, ![B, N, G, C]⟩ : Shape).ReduceWindows ![1, N, 1, 1] ![1, 1, 1, 1] ![0, W, 0, 0] ![0, 0, 0, 0] ⟨4, ![B, N, G, C]⟩)
    (b : Fin B) (s : Fin N) (g : Fin G) (c : Fin C) :
    Ideal.hostReduceWindowAdd ![1, N, 1, 1] ![1, 1, 1, 1] ![0, W, 0, 0] ![0, 0, 0, 0] h x 0 (ix4 b s g c)
      = Pool.total (fun n => if h : n < N then x (ix4 b ⟨n, h⟩ g c) else 0) (s.val + 1) := by
  subst hN
  have hs := s.isLt
  unfold Ideal.hostReduceWindowAdd Host.reduceWindow
  refine (foldl_add _ _ _).trans ?_
  rw [zero_add, ← List.ofFn_eq_map, List.sum_ofFn]
  refine (Finset.sum_congr rfl fun i _ => ?_ : _ = ∑ i, padded x (ix4 b s g c) ((⟨4, ![1, W + 1, 1, 1]⟩ : Shape).rowMajor.symm i)).trans ?_
  · exact dite_congr rfl (fun _ => rfl) (fun _ => rfl)
  refine ((Equiv.sum_comp (⟨4, ![1, W + 1, 1, 1]⟩ : Shape).rowMajor.symm (padded x (ix4 b s g c))).trans
    (Fintype.sum_equiv (places (W + 1)) _ (fun k : Fin (W + 1) => (fun n : Nat => if W ≤ s.val + n then
      (fun n : Nat => if h : n < W + 1 then x (ix4 b ⟨n, h⟩ g c) else (0 : EReal)) (s.val + n - W) else 0) k.val) fun w => ?_)).trans ?_
  · have hw0 : (w 0).val < 1 := (w 0).isLt
    have hw1 : (w 1).val < W + 1 := (w 1).isLt
    have hw2 : (w 2).val < 1 := (w 2).isLt
    have hw3 : (w 3).val < 1 := (w 3).isLt
    show dite _ _ _ = if W ≤ s.val + (w 1).val then
      (if h : s.val + (w 1).val - W < W + 1 then x (ix4 b ⟨s.val + (w 1).val - W, h⟩ g c) else 0) else (0 : EReal)
    split
    · next hin =>
      have h1 := hin 1
      change W ≤ s.val * 1 + (w 1).val ∧ s.val * 1 + (w 1).val - W < W + 1 at h1
      rw [if_pos (by omega), dif_pos (by omega)]
      refine congrArg x (funext fun a => Fin.ext ?_)
      match a with
      | ⟨0, _⟩ => show b.val * 1 + (w 0).val - 0 = b.val; omega
      | ⟨1, _⟩ => show s.val * 1 + (w 1).val - W = s.val + (w 1).val - W; omega
      | ⟨2, _⟩ => show g.val * 1 + (w 2).val - 0 = g.val; omega
      | ⟨3, _⟩ => show c.val * 1 + (w 3).val - 0 = c.val; omega
    · next hin =>
      refine (if_neg fun hle => hin fun a => ?_).symm
      have hb := b.isLt
      have hg := g.isLt
      have hc := c.isLt
      match a with
      | ⟨0, _⟩ => show 0 ≤ b.val * 1 + (w 0).val ∧ b.val * 1 + (w 0).val - 0 < B; omega
      | ⟨1, _⟩ => show W ≤ s.val * 1 + (w 1).val ∧ s.val * 1 + (w 1).val - W < W + 1; omega
      | ⟨2, _⟩ => show 0 ≤ g.val * 1 + (w 2).val ∧ g.val * 1 + (w 2).val - 0 < G; omega
      | ⟨3, _⟩ => show 0 ≤ c.val * 1 + (w 3).val ∧ c.val * 1 + (w 3).val - 0 < C; omega
  · rw [Fin.sum_univ_eq_sum_range (fun n : Nat => if W ≤ s.val + n then
      (fun n : Nat => if h : n < W + 1 then x (ix4 b ⟨n, h⟩ g c) else (0 : EReal)) (s.val + n - W) else 0) (W + 1)]
    exact Pool.sum_padded (fun n : Nat => if h : n < W + 1 then x (ix4 b ⟨n, h⟩ g c) else (0 : EReal)) W s.val (by omega)

theorem run_at (b : Fin 2) (s : Fin 16384) (g : Fin 4) (c : Fin 512) :
    val_main_v1 x0 (ix4 b s g c) = Pool.total (Pool.seq x0 b (Pool.column g c)) (s.val + 1) := by
  have hz (i : S_.Idx) : val_main_call0_call0_v0 (F := Ideal) i = (0 : EReal) := by
    pointwise [val_main_call0_call0_v0, val_main_call0_call0_cst]
  unfold val_main_v1 Host.reduceWindowAdd
  rw [Ideal.hostReduceWindowAdd_def, hz]
  refine (sums_at (B := 2) (N := 16384) (W := 16383) (G := 4) (C := 512) rfl (val_main_v0 x0) _ b s g c).trans ?_
  refine congrArg (fun f => Pool.total f (s.val + 1)) (funext fun n => ?_)
  unfold Pool.seq
  refine dite_congr rfl (fun h => ?_) (fun _ => rfl)
  pointwise [val_main_v0, Pool.column]

/-- Every entry is finite. -/
def Finite : Prop := ∀ b s e, ∃ r : ℝ, x0 (ix3 b s e) = r

theorem seq_finite (h : Finite x0) (b : Fin 2) (e : Fin 2048) (n : Nat) : ∃ r : ℝ, Pool.seq x0 b e n = r := by
  unfold Pool.seq
  split
  · exact h _ _ _
  · exact ⟨0, rfl⟩

/-- One group's means, where the prefix sums and the entries are those of sequences. -/
theorem mean_of (h : Finite x0) (b : Fin 2) (e : Fin 2048) (s : Fin 16384) (n : Nat) (C L X : EReal)
    (hC : C = Pool.total (Pool.seq x0 b e) (s.val + 1)) (hL : L = Pool.older (Pool.seq x0 b e) s.val n) (hX : X = Pool.seq x0 b e s.val) :
    Ideal.div (C - L) (Pool.count s.val n) - X = Pool.mean (Pool.seq x0 b e) s.val n := by
  rw [hC, hL, hX, Pool.total_sub_older _ (seq_finite x0 h b e)]
  rfl

theorem entry_at (b : Fin 2) (s : Fin 16384) (g : Fin 4) (c : Fin 512) :
    val_main_v0 x0 (ix4 b s g c) = Pool.seq x0 b (Pool.column g c) s.val := by
  refine Eq.trans (b := x0 (ix3 b s (Pool.column g c))) (by pointwise [val_main_v0, Pool.column]) ?_
  unfold Pool.seq
  rw [dif_pos s.isLt]

theorem pad_word : FloatOps.sitofp (F := Ideal) .f32 (0#32) = (0 : EReal) := by
  show (((0#32 : BitVec 32).toInt : ℝ) : EReal) = 0
  simp

theorem sum0_at (b : Fin 2) (s : Fin 16384) (c : Fin 512) :
    val_main_v4 x0 (ix3 b s c) = Pool.total (Pool.seq x0 b (Pool.column 0 c)) (s.val + 1) := by
  refine Eq.trans ?_ (run_at x0 b s 0 c)
  pointwise [val_main_v4, val_main_v3]

theorem own0_at (b : Fin 2) (s : Fin 16384) (c : Fin 512) :
    val_main_v17 x0 (ix3 b s c) = Pool.seq x0 b (Pool.column 0 c) s.val := by
  refine Eq.trans ?_ (entry_at x0 b s 0 c)
  pointwise [val_main_v17, val_main_v16]

theorem count0_at (b : Fin 2) (s : Fin 16384) (c : Fin 512) : val_main_v14 (F := Ideal) (ix3 b s c) = Pool.count s.val 2 := by
  pointwise [val_main_v14, val_main_v12, val_main_v11, val_main_v10, val_main_v9, val_main_v8, val_main_v7, val_main_v2, val_main_c_0, val_main_c_1, Pool.count]

theorem lag0_at (b : Fin 2) (s : Fin 16384) (c : Fin 512) :
    val_main_v6 x0 (ix3 b s c) = Pool.older (Pool.seq x0 b (Pool.column 0 c)) s.val 2 := by
  have hs := s.isLt
  have e : val_main_v6 x0 (ix3 b s c) = if h : 2 ≤ s.val ∧ s.val - 2 < 16382 then val_main_v4 x0 (ix3 b ⟨s.val - 2, by omega⟩ c)
      else FloatOps.sitofp (F := Ideal) .f32 (0#32) := by
    pointwise [val_main_v6, val_main_v5, val_main_call1_v0, val_main_c]
  rw [e]
  unfold Pool.older
  by_cases h : 2 ≤ s.val
  · rw [dif_pos ⟨h, by omega⟩, if_pos h, sum0_at]
  · rw [dif_neg (fun q => h q.1), if_neg h, pad_word]

theorem group0_at (h : Finite x0) (b : Fin 2) (s : Fin 16384) (c : Fin 512) :
    val_main_v18 x0 (ix3 b s c) = Pool.mean (Pool.seq x0 b (Pool.column 0 c)) s.val 2 := by
  rw [val_main_v18_apply, val_main_v15_apply, val_main_v13_apply, count0_at]
  exact mean_of x0 h b (Pool.column 0 c) s 2 _ _ _ (sum0_at x0 b s c) (lag0_at x0 b s c) (own0_at x0 b s c)

theorem sum1_at (b : Fin 2) (s : Fin 16384) (c : Fin 512) :
    val_main_v20 x0 (ix3 b s c) = Pool.total (Pool.seq x0 b (Pool.column 1 c)) (s.val + 1) := by
  refine Eq.trans ?_ (run_at x0 b s 1 c)
  pointwise [val_main_v20, val_main_v19]

theorem own1_at (b : Fin 2) (s : Fin 16384) (c : Fin 512) :
    val_main_v33 x0 (ix3 b s c) = Pool.seq x0 b (Pool.column 1 c) s.val := by
  refine Eq.trans ?_ (entry_at x0 b s 1 c)
  pointwise [val_main_v33, val_main_v32]

theorem count1_at (b : Fin 2) (s : Fin 16384) (c : Fin 512) : val_main_v30 (F := Ideal) (ix3 b s c) = Pool.count s.val 4 := by
  pointwise [val_main_v30, val_main_v28, val_main_v27, val_main_v26, val_main_v25, val_main_v24, val_main_v23, val_main_v2, val_main_c_3, val_main_c_4, Pool.count]

theorem lag1_at (b : Fin 2) (s : Fin 16384) (c : Fin 512) :
    val_main_v22 x0 (ix3 b s c) = Pool.older (Pool.seq x0 b (Pool.column 1 c)) s.val 4 := by
  have hs := s.isLt
  have e : val_main_v22 x0 (ix3 b s c) = if h : 4 ≤ s.val ∧ s.val - 4 < 16380 then val_main_v20 x0 (ix3 b ⟨s.val - 4, by omega⟩ c)
      else FloatOps.sitofp (F := Ideal) .f32 (0#32) := by
    pointwise [val_main_v22, val_main_v21, val_main_call2_v0, val_main_c_2]
  rw [e]
  unfold Pool.older
  by_cases h : 4 ≤ s.val
  · rw [dif_pos ⟨h, by omega⟩, if_pos h, sum1_at]
  · rw [dif_neg (fun q => h q.1), if_neg h, pad_word]

theorem group1_at (h : Finite x0) (b : Fin 2) (s : Fin 16384) (c : Fin 512) :
    val_main_v34 x0 (ix3 b s c) = Pool.mean (Pool.seq x0 b (Pool.column 1 c)) s.val 4 := by
  rw [val_main_v34_apply, val_main_v31_apply, val_main_v29_apply, count1_at]
  exact mean_of x0 h b (Pool.column 1 c) s 4 _ _ _ (sum1_at x0 b s c) (lag1_at x0 b s c) (own1_at x0 b s c)

theorem sum2_at (b : Fin 2) (s : Fin 16384) (c : Fin 512) :
    val_main_v36 x0 (ix3 b s c) = Pool.total (Pool.seq x0 b (Pool.column 2 c)) (s.val + 1) := by
  refine Eq.trans ?_ (run_at x0 b s 2 c)
  pointwise [val_main_v36, val_main_v35]

theorem own2_at (b : Fin 2) (s : Fin 16384) (c : Fin 512) :
    val_main_v49 x0 (ix3 b s c) = Pool.seq x0 b (Pool.column 2 c) s.val := by
  refine Eq.trans ?_ (entry_at x0 b s 2 c)
  pointwise [val_main_v49, val_main_v48]

theorem count2_at (b : Fin 2) (s : Fin 16384) (c : Fin 512) : val_main_v46 (F := Ideal) (ix3 b s c) = Pool.count s.val 8 := by
  pointwise [val_main_v46, val_main_v44, val_main_v43, val_main_v42, val_main_v41, val_main_v40, val_main_v39, val_main_v2, val_main_c_6, val_main_c_7, Pool.count]

theorem lag2_at (b : Fin 2) (s : Fin 16384) (c : Fin 512) :
    val_main_v38 x0 (ix3 b s c) = Pool.older (Pool.seq x0 b (Pool.column 2 c)) s.val 8 := by
  have hs := s.isLt
  have e : val_main_v38 x0 (ix3 b s c) = if h : 8 ≤ s.val ∧ s.val - 8 < 16376 then val_main_v36 x0 (ix3 b ⟨s.val - 8, by omega⟩ c)
      else FloatOps.sitofp (F := Ideal) .f32 (0#32) := by
    pointwise [val_main_v38, val_main_v37, val_main_call3_v0, val_main_c_5]
  rw [e]
  unfold Pool.older
  by_cases h : 8 ≤ s.val
  · rw [dif_pos ⟨h, by omega⟩, if_pos h, sum2_at]
  · rw [dif_neg (fun q => h q.1), if_neg h, pad_word]

theorem group2_at (h : Finite x0) (b : Fin 2) (s : Fin 16384) (c : Fin 512) :
    val_main_v50 x0 (ix3 b s c) = Pool.mean (Pool.seq x0 b (Pool.column 2 c)) s.val 8 := by
  rw [val_main_v50_apply, val_main_v47_apply, val_main_v45_apply, count2_at]
  exact mean_of x0 h b (Pool.column 2 c) s 8 _ _ _ (sum2_at x0 b s c) (lag2_at x0 b s c) (own2_at x0 b s c)

theorem sum3_at (b : Fin 2) (s : Fin 16384) (c : Fin 512) :
    val_main_v52 x0 (ix3 b s c) = Pool.total (Pool.seq x0 b (Pool.column 3 c)) (s.val + 1) := by
  refine Eq.trans ?_ (run_at x0 b s 3 c)
  pointwise [val_main_v52, val_main_v51]

theorem own3_at (b : Fin 2) (s : Fin 16384) (c : Fin 512) :
    val_main_v65 x0 (ix3 b s c) = Pool.seq x0 b (Pool.column 3 c) s.val := by
  refine Eq.trans ?_ (entry_at x0 b s 3 c)
  pointwise [val_main_v65, val_main_v64]

theorem count3_at (b : Fin 2) (s : Fin 16384) (c : Fin 512) : val_main_v62 (F := Ideal) (ix3 b s c) = Pool.count s.val 16 := by
  pointwise [val_main_v62, val_main_v60, val_main_v59, val_main_v58, val_main_v57, val_main_v56, val_main_v55, val_main_v2, val_main_c_9, val_main_c_10, Pool.count]

theorem lag3_at (b : Fin 2) (s : Fin 16384) (c : Fin 512) :
    val_main_v54 x0 (ix3 b s c) = Pool.older (Pool.seq x0 b (Pool.column 3 c)) s.val 16 := by
  have hs := s.isLt
  have e : val_main_v54 x0 (ix3 b s c) = if h : 16 ≤ s.val ∧ s.val - 16 < 16368 then val_main_v52 x0 (ix3 b ⟨s.val - 16, by omega⟩ c)
      else FloatOps.sitofp (F := Ideal) .f32 (0#32) := by
    pointwise [val_main_v54, val_main_v53, val_main_call4_v0, val_main_c_8]
  rw [e]
  unfold Pool.older
  by_cases h : 16 ≤ s.val
  · rw [dif_pos ⟨h, by omega⟩, if_pos h, sum3_at]
  · rw [dif_neg (fun q => h q.1), if_neg h, pad_word]

theorem group3_at (h : Finite x0) (b : Fin 2) (s : Fin 16384) (c : Fin 512) :
    val_main_v66 x0 (ix3 b s c) = Pool.mean (Pool.seq x0 b (Pool.column 3 c)) s.val 16 := by
  rw [val_main_v66_apply, val_main_v63_apply, val_main_v61_apply, count3_at]
  exact mean_of x0 h b (Pool.column 3 c) s 16 _ _ _ (sum3_at x0 b s c) (lag3_at x0 b s c) (own3_at x0 b s c)

theorem pooled_at (h : Finite x0) (b : Fin 2) (s : Fin 16384) (g : Fin 4) (c : Fin 512) :
    val_main_v71 x0 (ix4 b s g c) = Pool.mean (Pool.seq x0 b (Pool.column g c)) s.val (Pool.size g) := by
  fin_cases g
  · refine Eq.trans ?_ (group0_at x0 h b s c)
    pointwise [val_main_v71, val_main_v67]
  · refine Eq.trans ?_ (group1_at x0 h b s c)
    pointwise [val_main_v71, val_main_v68]
  · refine Eq.trans ?_ (group2_at x0 h b s c)
    pointwise [val_main_v71, val_main_v69]
  · refine Eq.trans ?_ (group3_at x0 h b s c)
    pointwise [val_main_v71, val_main_v70]

theorem reference_at (h : Finite x0) (b : Fin 2) (s : Fin 16384) (e : Fin 2048) :
    val_main_v77 x0 x1 x2 (ix3 b s e)
      = Pool.mixed (Pool.seq x0 b) (fun g c d => x1 (ix3 g c d)) (fun e => x2 (ix1 e)) s.val e := by
  have e1 : val_main_v77 x0 x1 x2 (ix3 b s e)
      = val_main_v72 x0 x1 (ix4 (Pool.group e) (Pool.lane e) b s) * x2 (ix1 e) := by
    pointwise [val_main_v77, val_main_v76, val_main_v75, val_main_v74, val_main_v73, Pool.group, Pool.lane]
  have e2 (g : Fin 4) (d : Fin 512) : val_main_v72 x0 x1 (ix4 g d b s)
      = ∑ c : Fin 512, (x1 (ix3 g c d) * val_main_v71 x0 (ix4 b s g c) : EReal) := by
    pointwise [val_main_v72]
  rw [e1, e2]
  unfold Pool.mixed
  refine congrArg (· * _) (Finset.sum_congr (M := EReal) rfl fun c _ => ?_)
  rw [pooled_at x0 h]
  exact mul_comm _ _

end Cert.Reference4Ideal.Pool
-- ==== Proof.PoolFinite.lean ====
/- The precondition, read: an input whose magnitudes are all below the infinity word has real elements. -/
module

public import proofs.«01_k».proof.Pre_finite
public import proofs.«01_k».proof.Proof.Gen.Pre_finite
public import proofs.«01_k».proof.Proof.PoolReference
public import Idealize.ShloMosaic.Lib.Pointwise

@[expose] public section

noncomputable section

namespace Cert.Reference4Ideal.Pool

open Idealize.ShloMosaic

/-- The word the precondition compares with is positive infinity. -/
theorem word_top : Ideal.ofBits FTy.f32 0x7F800000#32 = ⊤ := by
  simp [Ideal.ofBits, Ideal.ieee]

/-- An extended real whose magnitude is below infinity is real. -/
theorem real_of_abs_lt (x : EReal) (h : FloatOps.cmpf (F := Ideal) (φ := .f32) .olt (FloatOps.hostAbsf (F := Ideal) (φ := .f32) x) (Ideal.ofBits FTy.f32 0x7F800000#32) = 1#1) :
    ∃ r : ℝ, x = r := by
  rw [word_top] at h
  induction x using EReal.rec with
  | bot => exact absurd h (show ¬ BitVec.ofBool (decide (max (⊥ : EReal) (-⊥) < ⊤)) = 1#1 by simp)
  | coe r => exact ⟨r, rfl⟩
  | top => exact absurd h (show ¬ BitVec.ofBool (decide (max (⊤ : EReal) (-⊤) < ⊤)) = 1#1 by simp)

/-- The precondition gives a finite input. -/
theorem finite_of (x0 : FVec Ideal S2x16384x2048 .f32) (x1 : FVec Ideal S4x512x512 .f32) (x2 : FVec Ideal S2048 .f32)
    (h : @Cert.Pre_finite.fn Cert.Pre_finite.Gen.facts Ideal _ x0 x1 x2 = fun _ => 1#1) : Finite x0 := by
  intro b s e
  exact real_of_abs_lt _ (congrFun h (ix3 b s e))

end Cert.Reference4Ideal.Pool

end
-- ==== Proof.HeadProducts.lean ====
/-
  The input norm and the input projections, each as a function of the arrays it reads, whatever those hold.
-/
module

public import proofs.«01_k».proof.Proof.Gen.Kernel3Ideal.Frame.Region0
public import proofs.«01_k».proof.Proof.Gen.Kernel3Ideal.Frame.Region1
public import proofs.«01_k».proof.Proof.Gen.Kernel3Ideal.Frame.Region2
public import proofs.«01_k».proof.Proof.Gen.Kernel3Ideal.Frame.Region3
public import proofs.«01_k».proof.Proof.Gen.Kernel3Ideal.Frame.Region4
public import proofs.«01_k».proof.Proof.Gen.Kernel3Ideal.Frame.Region5
public import proofs.«01_k».proof.Proof.Gen.Kernel3Ideal.Frame.Region6
public import proofs.«01_k».proof.Proof.Rows
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Head

open Cert.Kernel3Ideal Cert.Kernel3Ideal.Gen
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)

theorem norm_input : (dat0 V c).arrAt 2 cfg0.N = fun i : S32768x2048.Idx =>
    Rows.norm (fun d => V c main_v1 (ix2 (i 0) d)) (fun d => V c main_v2 (ix2 0 d)) (i 1) := by
  refine (dat0 V c).arrAt_eq_of_covers 2 _ (by decide +kernel) fun t hf y => ?_
  blk_simp
  rw [after0_2]
  unfold out0_2
  frame_out
  idx_vars y
  pointwise [k0_pay1, Rows.norm]
  blk_point [iblk0, idx0 t]

theorem idx1 : ∀ t : Fin cfg1.N, win1_0.index t = ![t.val / 4, 0] ∧ win1_1.index t = ![0, t.val % 4]
    ∧ win1_2.index t = ![t.val / 4, t.val % 4] :=
  (by decide +kernel : ∀ t : Fin grid1.N, _)

theorem query : (dat1 V c).arrAt 2 cfg1.N = fun i : S32768x2048.Idx =>
    Rows.dot (fun k => V c main_v3 (ix2 (i 0) k)) (fun k => V c main_v4 (ix2 k (i 1))) := by
  refine (dat1 V c).arrAt_eq_of_covers 2 _ (by decide +kernel) fun t hf y => ?_
  blk_simp
  rw [after1_2]
  unfold out1_2
  frame_out
  idx_vars y
  pointwise [k1_pay1, Rows.dot]
  blk_point [iblk1, idx1 t]

theorem idx2 : ∀ t : Fin cfg2.N, win2_0.index t = ![t.val / 1, 0] ∧ win2_1.index t = ![0, t.val % 1]
    ∧ win2_2.index t = ![t.val / 1, t.val % 1] :=
  (by decide +kernel : ∀ t : Fin grid2.N, _)

theorem key : (dat2 V c).arrAt 2 cfg2.N = fun i : S32768x512.Idx =>
    Rows.dot (fun k => V c main_v3 (ix2 (i 0) k)) (fun k => V c main_v7 (ix2 k (i 1))) := by
  refine (dat2 V c).arrAt_eq_of_covers 2 _ (by decide +kernel) fun t hf y => ?_
  blk_simp
  rw [after2_2]
  unfold out2_2
  frame_out
  idx_vars y
  pointwise [k2_pay1, Rows.dot]
  blk_point [iblk2, idx2 t]

theorem idx3 : ∀ t : Fin cfg3.N, win3_0.index t = ![t.val / 1, 0] ∧ win3_1.index t = ![0, t.val % 1]
    ∧ win3_2.index t = ![t.val / 1, t.val % 1] :=
  (by decide +kernel : ∀ t : Fin grid3.N, _)

theorem value : (dat3 V c).arrAt 2 cfg3.N = fun i : S32768x512.Idx =>
    Rows.dot (fun k => V c main_v3 (ix2 (i 0) k)) (fun k => V c main_v10 (ix2 k (i 1))) := by
  refine (dat3 V c).arrAt_eq_of_covers 2 _ (by decide +kernel) fun t hf y => ?_
  blk_simp
  rw [after3_2]
  unfold out3_2
  frame_out
  idx_vars y
  pointwise [k3_pay1, Rows.dot]
  blk_point [iblk3, idx3 t]

theorem idx4 : ∀ t : Fin cfg4.N, win4_0.index t = ![t.val / 4, 0] ∧ win4_1.index t = ![0, t.val % 4]
    ∧ win4_2.index t = ![t.val / 4, t.val % 4] :=
  (by decide +kernel : ∀ t : Fin grid4.N, _)

theorem index_query : (dat4 V c).arrAt 2 cfg4.N = fun i : S32768x2048.Idx =>
    Rows.dot (fun k => V c main_v3 (ix2 (i 0) k)) (fun k => V c main_v13 (ix2 k (i 1))) := by
  refine (dat4 V c).arrAt_eq_of_covers 2 _ (by decide +kernel) fun t hf y => ?_
  blk_simp
  rw [after4_2]
  unfold out4_2
  frame_out
  idx_vars y
  pointwise [k4_pay1, Rows.dot]
  blk_point [iblk4, idx4 t]

theorem idx5 : ∀ t : Fin cfg5.N, win5_0.index t = ![t.val / 1, 0] ∧ win5_1.index t = ![0, t.val % 1]
    ∧ win5_2.index t = ![t.val / 1, t.val % 1] :=
  (by decide +kernel : ∀ t : Fin grid5.N, _)

theorem index_key : (dat5 V c).arrAt 2 cfg5.N = fun i : S32768x128.Idx =>
    Rows.dot (fun k => V c main_v3 (ix2 (i 0) k)) (fun k => V c main_v16 (ix2 k (i 1))) := by
  refine (dat5 V c).arrAt_eq_of_covers 2 _ (by decide +kernel) fun t hf y => ?_
  blk_simp
  rw [after5_2]
  unfold out5_2
  frame_out
  idx_vars y
  pointwise [k5_pay1, Rows.dot]
  blk_point [iblk5, idx5 t]

theorem idx6 : ∀ t : Fin cfg6.N, win6_0.index t = ![t.val / 1, 0] ∧ win6_1.index t = ![0, t.val % 1]
    ∧ win6_2.index t = ![t.val / 1, t.val % 1] :=
  (by decide +kernel : ∀ t : Fin grid6.N, _)

theorem index_weight : (dat6 V c).arrAt 2 cfg6.N = fun i : S32768x16.Idx =>
    Rows.dot (fun k => V c main_v3 (ix2 (i 0) k)) (fun k => V c main_v19 (ix2 k (i 1))) := by
  refine (dat6 V c).arrAt_eq_of_covers 2 _ (by decide +kernel) fun t hf y => ?_
  blk_simp
  rw [after6_2]
  unfold out6_2
  frame_out
  idx_vars y
  pointwise [k6_pay1, Rows.dot]
  blk_point [iblk6, idx6 t]

end Cert.Kernel3Ideal.Head

end
-- ==== Proof.Rotary.lean ====
/-
  The rotary embedding of one row, and the other functions of a row in the sparse attention's input projections.
-/
module

public import proofs.«01_k».proof.Proof.Rows
public import Idealize.ShloMosaic.Lib.Pointwise
public import Idealize.ShloMosaic.Lib.ValueIdx
public import Idealize.ShloMosaic.Lib.WordCmp

@[expose] public section

noncomputable section

open Idealize.ShloMosaic

namespace Cert.Rows

/-- The lane sixteen further, round the end. -/
def ahead (l : Fin 128) : Fin 128 := ⟨(l.val + 16) % 128, by omega⟩

/-- The lane sixteen back, round the end. -/
def behind (l : Fin 128) : Fin 128 := ⟨(l.val + 112) % 128, by omega⟩

/-- A head's lanes turned by the angles `a`, one for each lane: the first thirty-two in pairs sixteen apart, the rest as they are. -/
def rotary (x a : Fin 128 → EReal) (l : Fin 128) : EReal :=
  if l.val < 16 then x l * Ideal.cos (a l) - x (ahead l) * Ideal.sin (a l)
  else if l.val < 32 then x l * Ideal.cos (a l) + x (behind l) * Ideal.sin (a l)
  else x l

/-- Whether a lane comes before the `n`-th, as the programs compare them. -/
abbrev before (l : Fin 128) (n : BitVec 32) : BitVec 1 := IntOp.cmpi .slt (BitVec.ofNat 32 l.val) n

/-- The same with the two products spread over all the lanes. -/
def spread (x a : Fin 128 → EReal) (l : Fin 128) : EReal :=
  x l * Scalar.select (before l 32#32) (Ideal.cos (a l)) 1
    + Scalar.select (before l 16#32) (x (ahead l)) (x (behind l))
      * Scalar.select (before l 16#32) (0 - Ideal.sin (a l)) (Scalar.select (before l 32#32) (Ideal.sin (a l)) 0)

theorem select_before {α : Type} (l : Fin 128) (n : Nat) (h : n < 128) (x y : α) :
    Scalar.select (before l (BitVec.ofNat 32 n)) x y = if l.val < n then x else y := by
  unfold Scalar.select
  exact if_congr (WordCmp.cmpi_slt_ofNat_eq_one_iff (by omega) (by omega)) rfl rfl

theorem spread_eq (x a : Fin 128 → EReal) (l : Fin 128) : spread x a l = rotary x a l := by
  unfold spread rotary
  simp only [select_before l 16 (by omega), select_before l 32 (by omega)]
  by_cases h : l.val < 16
  · have h' : l.val < 32 := by omega
    simp only [h, h', if_true]
    rw [zero_sub, mul_neg, sub_eq_add_neg]
  · by_cases h' : l.val < 32 <;> simp [h, h']

/-- A lane's angle: the position times the lane's frequency. -/
def angle (p : BitVec 32) (w : Fin 128 → EReal) (l : Fin 128) : EReal := FloatOps.sitofp (F := Ideal) FTy.f32 p * w l

/-- A lane's frequency: 500000 to the power −2(l mod 16)/32. -/
def freq (l : Fin 128) : EReal :=
  Ideal.pow (Ideal.ofBits FTy.f32 1223959552#32)
    (Ideal.div (-(Ideal.ofBits FTy.f32 1073741824#32 * FloatOps.sitofp (F := Ideal) FTy.f32 (BitVec.ofNat 32 (l.val % 16))))
      (Ideal.ofBits FTy.f32 1107296256#32))

/-- A column of the input projections: the normalised row times that column of the weights. -/
def proj (h g : Fin 2048 → EReal) (w : Fin 2048 → Fin 5264 → EReal) (j : Fin 5264) : EReal := times (norm h g) w j

/-- Column `e` of the part of the projections that begins at column `a`. -/
def part (a : Nat) {n : Nat} (h : a + n ≤ 5264) (e : Fin n) : Fin 5264 := ⟨a + e.val, by omega⟩

/-- The lane of a column. -/
def lane {n : Nat} (e : Fin n) : Fin 128 := ⟨e.val % 128, by omega⟩

/-- Lane `l` of the query head of column `e`. -/
def headOf (e : Fin 2048) (l : Fin 128) : Fin 2048 := ⟨e.val / 128 * 128 + l.val, by omega⟩

/-- Lane `l` of query head `h`. -/
def headAt (h : Fin 16) (l : Fin 128) : Fin 2048 := ⟨h.val * 128 + l.val, by omega⟩

/-- Position `s` of block `q`. -/
def place (q : Fin 64) (s : Fin 256) : Fin 16384 := ⟨q.val * 256 + s.val, by omega⟩

end Cert.Rows

end
-- ==== Proof.HeadRotaryBlocks.lean ====
/-
  One block of each of the rotary embedding's four regions: its stores, one per head, are one function of the block's reads.
-/
module

public import proofs.«01_k».proof.Proof.Gen.Kernel3Ideal.Frame.Region7
public import proofs.«01_k».proof.Proof.Gen.Kernel3Ideal.Frame.Region8
public import proofs.«01_k».proof.Proof.Gen.Kernel3Ideal.Frame.Region9
public import proofs.«01_k».proof.Proof.Gen.Kernel3Ideal.Frame.Region10
public import proofs.«01_k».proof.Proof.Rotary
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Head

open Cert.Kernel3Ideal Cert.Kernel3Ideal.Gen
variable (p : Vec Ideal S1x256x1 .i32) (w : Vec Ideal S1x128 .f32)

theorem block_query_at (x : Vec Ideal S1x256x2048 .f32) (y : S1x256x2048.Idx) :
    @Eq EReal (out7_3 (F := Ideal) x p w y)
      (Rows.spread (fun l => x (ix3 0 (y 1) (Rows.headOf (y 2) l))) (Rows.angle (p (ix3 0 (y 1) 0)) fun l => w (ix2 0 l)) (Rows.lane (y 2))) := by
  canon_tiles y h
  all_goals
    idx_vars y
    rw [show Rows.lane (y 2) = y2 from Fin.ext (by simp only [Rows.lane]; omega)]
    open_payloads
    pointwise [k7_pay29, Rows.spread, Rows.angle, Rows.ahead, Rows.behind, Rows.headOf]
    blk_point

theorem block_key_at (x : Vec Ideal S1x256x512 .f32) (y : S1x256x512.Idx) :
    @Eq EReal (out8_3 (F := Ideal) x p w y)
      (Rows.spread (fun l => x (ix3 0 (y 1) (Rows.head (y 2) l))) (Rows.angle (p (ix3 0 (y 1) 0)) fun l => w (ix2 0 l)) (Rows.lane (y 2))) := by
  canon_tiles y h
  all_goals
    idx_vars y
    rw [show Rows.lane (y 2) = y2 from Fin.ext (by simp only [Rows.lane]; omega)]
    open_payloads
    pointwise [k8_pay11, Rows.spread, Rows.angle, Rows.ahead, Rows.behind, Rows.head]
    blk_point

theorem block_index_query_at (x : Vec Ideal S1x256x2048 .f32) (y : S1x1x16x256x128.Idx) :
    @Eq EReal (out9_3 (F := Ideal) x p w y)
      (Rows.spread (fun l => x (ix3 0 (y 3) (Rows.headAt (y 2) l))) (Rows.angle (p (ix3 0 (y 3) 0)) fun l => w (ix2 0 l)) (y 4)) := by
  canon_tiles y h
  all_goals
    idx_vars y
    rw [show y 4 = y4 from Fin.ext (by omega)]
    open_payloads
    pointwise [k9_pay29, Rows.spread, Rows.angle, Rows.ahead, Rows.behind, Rows.headAt]
    blk_point

theorem block_index_key_at (x : Vec Ideal S1x256x128 .f32) (y : S1x256x128.Idx) :
    @Eq EReal (out10_3 (F := Ideal) x p w y)
      (Rows.spread (fun l => x (ix3 0 (y 1) l)) (Rows.angle (p (ix3 0 (y 1) 0)) fun l => w (ix2 0 l)) (y 2)) := by
  unfold out10_3
  frame_out
  idx_vars y
  pointwise [k10_pay1, Rows.spread, Rows.angle, Rows.ahead, Rows.behind]
  blk_point

end Cert.Kernel3Ideal.Head

end
-- ==== Proof.HeadRotary.lean ====
/-
  The rotary embedding's four regions, each as a function of the arrays it reads, whatever those hold.
-/
module

public import proofs.«01_k».proof.Proof.HeadRotaryBlocks
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Head

open Cert.Kernel3Ideal Cert.Kernel3Ideal.Gen
variable (V : (c : Dev nD) → (b : Ref sig .tc) → Buf (Elt Ideal) ((c : Thread nD τ).loc b)) (c : Dev nD)

theorem idx7 : ∀ t : Fin cfg7.N, win7_0.index t = ![t.val / 64, t.val % 64, 0] ∧ win7_1.index t = ![t.val / 64, t.val % 64, 0]
    ∧ win7_2.index t = ![0, 0] ∧ win7_3.index t = ![t.val / 64, t.val % 64, 0] :=
  (by decide +kernel : ∀ t : Fin grid7.N, _)

theorem idx8 : ∀ t : Fin cfg8.N, win8_0.index t = ![t.val / 64, t.val % 64, 0] ∧ win8_1.index t = ![t.val / 64, t.val % 64, 0]
    ∧ win8_2.index t = ![0, 0] ∧ win8_3.index t = ![t.val / 64, t.val % 64, 0] :=
  (by decide +kernel : ∀ t : Fin grid8.N, _)

theorem idx9 : ∀ t : Fin cfg9.N, win9_0.index t = ![t.val / 64, t.val % 64, 0] ∧ win9_1.index t = ![t.val / 64, t.val % 64, 0]
    ∧ win9_2.index t = ![0, 0] ∧ win9_3.index t = ![t.val / 64, t.val % 64, 0, 0, 0] :=
  (by decide +kernel : ∀ t : Fin grid9.N, _)

theorem idx10 : ∀ t : Fin cfg10.N, win10_0.index t = ![t.val / 64, t.val % 64, 0] ∧ win10_1.index t = ![t.val / 64, t.val % 64, 0]
    ∧ win10_2.index t = ![0, 0] ∧ win10_3.index t = ![t.val / 64, t.val % 64, 0] :=
  (by decide +kernel : ∀ t : Fin grid10.N, _)

theorem rotated_query : (dat7 V c).arrAt 3 cfg7.N = fun i : S2x16384x2048.Idx =>
    Rows.spread (fun l => V c main_v6 (ix3 (i 0) (i 1) (Rows.headOf (i 2) l)))
      (Rows.angle (V c main_v36 (ix3 (i 0) (i 1) 0)) fun l => V c main_v35 (ix2 0 l)) (Rows.lane (i 2)) := by
  refine (dat7 V c).arrAt_eq_of_covers 3 _ (by decide +kernel) fun t hf y => ?_
  blk_simp
  rw [after7_3]
  refine (block_query_at _ _ _ y).trans ?_
  idx_vars y
  refine congr (congrArg₂ Rows.spread (funext fun l => ?_) (funext fun l => ?_)) (congrArg Rows.lane ?_)
  · pointwise [Rows.headOf]
    blk_point [iblk7, idx7 t]
  · pointwise [Rows.angle]
    blk_point [iblk7, idx7 t]
  · exact Fin.ext (win7_3.rect_emb_val_of_index_zero t 2 (congrFun (idx7 t).2.2.2 2) (ix3 y0 y1 y2)).symm

theorem rotated_key : (dat8 V c).arrAt 3 cfg8.N = fun i : S2x16384x512.Idx =>
    Rows.spread (fun l => V c main_v9 (ix3 (i 0) (i 1) (Rows.head (i 2) l)))
      (Rows.angle (V c main_v36 (ix3 (i 0) (i 1) 0)) fun l => V c main_v35 (ix2 0 l)) (Rows.lane (i 2)) := by
  refine (dat8 V c).arrAt_eq_of_covers 3 _ (by decide +kernel) fun t hf y => ?_
  blk_simp
  rw [after8_3]
  refine (block_key_at _ _ _ y).trans ?_
  idx_vars y
  refine congr (congrArg₂ Rows.spread (funext fun l => ?_) (funext fun l => ?_)) (congrArg Rows.lane ?_)
  · pointwise [Rows.head]
    blk_point [iblk8, idx8 t]
  · pointwise [Rows.angle]
    blk_point [iblk8, idx8 t]
  · exact Fin.ext (win8_3.rect_emb_val_of_index_zero t 2 (congrFun (idx8 t).2.2.2 2) (ix3 y0 y1 y2)).symm

theorem rotated_index_query : (dat9 V c).arrAt 3 cfg9.N = fun i : S2x64x16x256x128.Idx =>
    Rows.spread (fun l => V c main_v15 (ix3 (i 0) (Rows.place (i 1) (i 3)) (Rows.headAt (i 2) l)))
      (Rows.angle (V c main_v36 (ix3 (i 0) (Rows.place (i 1) (i 3)) 0)) fun l => V c main_v35 (ix2 0 l)) (i 4) := by
  refine (dat9 V c).arrAt_eq_of_covers 3 _ (by decide +kernel) fun t hf y => ?_
  blk_simp
  rw [after9_3]
  refine (block_index_query_at _ _ _ y).trans ?_
  idx_vars y
  refine congr (congrArg₂ Rows.spread (funext fun l => ?_) (funext fun l => ?_)) ?_
  · pointwise [Rows.headAt, Rows.place]
    blk_point [iblk9, idx9 t]
  · pointwise [Rows.angle, Rows.place]
    blk_point [iblk9, idx9 t]
  · exact Fin.ext (win9_3.rect_emb_val_of_index_zero t 4 (congrFun (idx9 t).2.2.2 4) (ix5 y0 y1 y2 y3 y4)).symm

theorem rotated_index_key : (dat10 V c).arrAt 3 cfg10.N = fun i : S2x16384x128.Idx =>
    Rows.spread (fun l => V c main_v18 (ix3 (i 0) (i 1) l))
      (Rows.angle (V c main_v36 (ix3 (i 0) (i 1) 0)) fun l => V c main_v35 (ix2 0 l)) (i 2) := by
  refine (dat10 V c).arrAt_eq_of_covers 3 _ (by decide +kernel) fun t hf y => ?_
  blk_simp
  rw [after10_3]
  refine (block_index_key_at _ _ _ y).trans ?_
  idx_vars y
  refine congr (congrArg₂ Rows.spread (funext fun l => ?_) (funext fun l => ?_)) ?_
  · pointwise []
    blk_point [iblk10, idx10 t]
  · pointwise [Rows.angle]
    blk_point [iblk10, idx10 t]
  · exact Fin.ext (win10_3.rect_emb_val_of_index_zero t 2 (congrFun (idx10 t).2.2.2 2) (ix3 y0 y1 y2)).symm

end Cert.Kernel3Ideal.Head

end
-- ==== Proof.HeadRun.lean ====
/-
  The input projections of the sparse attention from their arguments to the six results, through the eleven regions and the host operations between them.
-/
module

public import proofs.«01_k».proof.Proof.Gen.Kernel3Ideal.Frame
public import proofs.«01_k».proof.Proof.HeadProducts
public import proofs.«01_k».proof.Proof.HeadRotary

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.Head

open Cert.Kernel3Ideal Cert.Kernel3Ideal.Gen

variable (m : (ℓ : Loc nD τ sig) → Buf (Elt Ideal) ℓ) (ρ : Dev nD → PrngReg) (c : Dev nD)

theorem input_at (b : Fin 2) (s : Fin 16384) (d : Fin 2048) : V1 m ρ c main_v1 (ix2 (Rows.row b s) d) = m ((c : Thread nD τ).loc main_arg0) (ix3 b s d) := by
  refine Eq.trans (b := W0 m ρ c (Proc.devRef .tc main_arg0) (ix3 b s d)) ?_ (congrFun (W0_args m ρ c main_arg0 (by decide)) _)
  show StableHlo.after hostOps0 _ _ _ = _
  after_results
  pointwise [Rows.row]

theorem gain_at (d : Fin 2048) : V1 m ρ c main_v2 (ix2 0 d) = m ((c : Thread nD τ).loc main_arg2) (ix1 d) := by
  refine Eq.trans (b := W0 m ρ c (Proc.devRef .tc main_arg2) (ix1 d)) ?_ (congrFun (W0_args m ρ c main_arg2 (by decide)) _)
  show StableHlo.after hostOps0 _ _ _ = _
  after_results
  pointwise

theorem weight_at (k : Fin 2048) (j : Fin 5264) : V1 m ρ c main_v0 (ix2 k j) = m ((c : Thread nD τ).loc main_arg3) (ix2 k j) := by
  refine Eq.trans (b := W0 m ρ c (Proc.devRef .tc main_arg3) (ix2 k j)) ?_ (congrFun (W0_args m ρ c main_arg3 (by decide)) _)
  show StableHlo.after hostOps0 _ _ _ = _
  after_results
  pointwise

theorem position_at (b : Fin 2) (s : Fin 16384) : V15 m ρ c main_v36 (ix3 b s 0) = m ((c : Thread nD τ).loc main_arg1) (ix2 b s) := by
  refine Eq.trans (b := W14 m ρ c (Proc.devRef .tc main_arg1) (ix2 b s)) ?_ (congrFun (W14_args m ρ c main_arg1 (by decide)) _)
  show StableHlo.after hostOps7 _ _ _ = _
  after_results
  pointwise

theorem frequency_at (l : Fin 128) : V15 m ρ c main_v35 (ix2 0 l) = Rows.freq l := by
  show StableHlo.after hostOps7 _ _ _ = _
  after_results
  pointwise [Rows.freq]

theorem v3_kept_3 : V3 m ρ c main_v3 = V2 m ρ c main_v3 :=
  (W3_of m ρ c main_v3 (by decide))

theorem v0_kept_4 : V4 m ρ c main_v0 = V1 m ρ c main_v0 :=
  (W4_of m ρ c main_v0 (by decide)).trans <| (W3_of m ρ c main_v0 (by decide)).trans <| (W2_of m ρ c main_v0 (by decide))

theorem v3_kept_5 : V5 m ρ c main_v3 = V2 m ρ c main_v3 :=
  (W5_of m ρ c main_v3 (by decide)).trans <| (W4_of m ρ c main_v3 (by decide)).trans <| (W3_of m ρ c main_v3 (by decide))

theorem v0_kept_6 : V6 m ρ c main_v0 = V1 m ρ c main_v0 :=
  (W6_of m ρ c main_v0 (by decide)).trans <| (W5_of m ρ c main_v0 (by decide)).trans <| (W4_of m ρ c main_v0 (by decide)).trans <| (W3_of m ρ c main_v0 (by decide)).trans <| (W2_of m ρ c main_v0 (by decide))

theorem v3_kept_7 : V7 m ρ c main_v3 = V2 m ρ c main_v3 :=
  (W7_of m ρ c main_v3 (by decide)).trans <| (W6_of m ρ c main_v3 (by decide)).trans <| (W5_of m ρ c main_v3 (by decide)).trans <| (W4_of m ρ c main_v3 (by decide)).trans <| (W3_of m ρ c main_v3 (by decide))

theorem v0_kept_8 : V8 m ρ c main_v0 = V1 m ρ c main_v0 :=
  (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans <| (W2_of m ρ c main_v0 (by decide))

theorem v3_kept_9 : V9 m ρ c main_v3 = V2 m ρ c main_v3 :=
  (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide))

theorem v0_kept_10 : V10 m ρ c main_v0 = V1 m ρ c main_v0 :=
  (W10_of m ρ c main_v0 (by decide)).trans <| (W9_of m ρ c main_v0 (by decide)).trans <| (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans <| (W2_of m ρ c main_v0 (by decide))

theorem v3_kept_11 : V11 m ρ c main_v3 = V2 m ρ c main_v3 :=
  (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide))

theorem v0_kept_12 : V12 m ρ c main_v0 = V1 m ρ c main_v0 :=
  (W12_of m ρ c main_v0 (by decide)).trans <| (W11_of m ρ c main_v0 (by decide)).trans <| (W10_of m ρ c main_v0 (by decide)).trans <| (W9_of m ρ c main_v0 (by decide)).trans <| (W8_of m ρ c main_v0 (by decide)).trans <| (W7_of m ρ c main_v0 (by decide)).trans <| (W6_of m ρ c main_v0 (by decide)).trans <| (W5_of m ρ c main_v0 (by decide)).trans <| (W4_of m ρ c main_v0 (by decide)).trans <| (W3_of m ρ c main_v0 (by decide)).trans <| (W2_of m ρ c main_v0 (by decide))

theorem v3_kept_13 : V13 m ρ c main_v3 = V2 m ρ c main_v3 :=
  (W13_of m ρ c main_v3 (by decide)).trans <| (W12_of m ρ c main_v3 (by decide)).trans <| (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide))

theorem w_query_at (k : Fin 2048) (e : Fin 2048) : W3 m ρ c (Proc.devRef .tc main_v4) (ix2 k e) = V2 m ρ c main_v0 (ix2 k (Rows.part 0 (by decide) e)) := by
  show StableHlo.after hostOps1 _ _ _ = _
  after_results
  pointwise [Rows.part]

theorem query_flat (b : Fin 2) (s : Fin 16384) (e : Fin 2048) : W5 m ρ c (Proc.devRef .tc main_v6) (ix3 b s e) = V4 m ρ c main_v5 (ix2 (Rows.row b s) e) := by
  show StableHlo.after hostOps2 _ _ _ = _
  after_results
  pointwise [Rows.row]

theorem w_key_at (k : Fin 2048) (e : Fin 512) : W5 m ρ c (Proc.devRef .tc main_v7) (ix2 k e) = V4 m ρ c main_v0 (ix2 k (Rows.part 2048 (by decide) e)) := by
  show StableHlo.after hostOps2 _ _ _ = _
  after_results
  pointwise [Rows.part]

theorem key_flat (b : Fin 2) (s : Fin 16384) (e : Fin 512) : W7 m ρ c (Proc.devRef .tc main_v9) (ix3 b s e) = V6 m ρ c main_v8 (ix2 (Rows.row b s) e) := by
  show StableHlo.after hostOps3 _ _ _ = _
  after_results
  pointwise [Rows.row]

theorem w_value_at (k : Fin 2048) (e : Fin 512) : W7 m ρ c (Proc.devRef .tc main_v10) (ix2 k e) = V6 m ρ c main_v0 (ix2 k (Rows.part 2560 (by decide) e)) := by
  show StableHlo.after hostOps3 _ _ _ = _
  after_results
  pointwise [Rows.part]

theorem value_flat (b : Fin 2) (s : Fin 16384) (e : Fin 512) : W9 m ρ c (Proc.devRef .tc main_v12) (ix3 b s e) = V8 m ρ c main_v11 (ix2 (Rows.row b s) e) := by
  show StableHlo.after hostOps4 _ _ _ = _
  after_results
  pointwise [Rows.row]

theorem w_index_query_at (k : Fin 2048) (e : Fin 2048) : W9 m ρ c (Proc.devRef .tc main_v13) (ix2 k e) = V8 m ρ c main_v0 (ix2 k (Rows.part 3072 (by decide) e)) := by
  show StableHlo.after hostOps4 _ _ _ = _
  after_results
  pointwise [Rows.part]

theorem index_query_flat (b : Fin 2) (s : Fin 16384) (e : Fin 2048) : W11 m ρ c (Proc.devRef .tc main_v15) (ix3 b s e) = V10 m ρ c main_v14 (ix2 (Rows.row b s) e) := by
  show StableHlo.after hostOps5 _ _ _ = _
  after_results
  pointwise [Rows.row]

theorem w_index_key_at (k : Fin 2048) (e : Fin 128) : W11 m ρ c (Proc.devRef .tc main_v16) (ix2 k e) = V10 m ρ c main_v0 (ix2 k (Rows.part 5120 (by decide) e)) := by
  show StableHlo.after hostOps5 _ _ _ = _
  after_results
  pointwise [Rows.part]

theorem index_key_flat (b : Fin 2) (s : Fin 16384) (e : Fin 128) : W13 m ρ c (Proc.devRef .tc main_v18) (ix3 b s e) = V12 m ρ c main_v17 (ix2 (Rows.row b s) e) := by
  show StableHlo.after hostOps6 _ _ _ = _
  after_results
  pointwise [Rows.row]

theorem w_index_weight_at (k : Fin 2048) (e : Fin 16) : W13 m ρ c (Proc.devRef .tc main_v19) (ix2 k e) = V12 m ρ c main_v0 (ix2 k (Rows.part 5248 (by decide) e)) := by
  show StableHlo.after hostOps6 _ _ _ = _
  after_results
  pointwise [Rows.part]

theorem index_weight_flat (b : Fin 2) (s : Fin 16384) (e : Fin 16) : W15 m ρ c (Proc.devRef .tc main_v21) (ix3 b s e) = V14 m ρ c main_v20 (ix2 (Rows.row b s) e) := by
  show StableHlo.after hostOps7 _ _ _ = _
  after_results
  pointwise [Rows.row]

theorem v0_kept_2 : V2 m ρ c main_v0 = V1 m ρ c main_v0 :=
  (W2_of m ρ c main_v0 (by decide))

theorem norm_row (b : Fin 2) (s : Fin 16384) : (fun d => V2 m ρ c main_v3 (ix2 (Rows.row b s) d))
    = Rows.norm (fun d => m ((c : Thread nD τ).loc main_arg0) (ix3 b s d)) (fun d => m ((c : Thread nD τ).loc main_arg2) (ix1 d)) := by
  refine (funext fun d => (congrFun ((W2_arr m ρ c 2).trans (norm_input (V1 m ρ) c)) (ix2 (Rows.row b s) d))).trans ?_
  exact congrArg₂ Rows.norm (funext (input_at m ρ c b s)) (funext (gain_at m ρ c))

/-- The projections of one position. -/
abbrev proj (b : Fin 2) (s : Fin 16384) : Fin 5264 → EReal :=
  Rows.proj (fun d => m ((c : Thread nD τ).loc main_arg0) (ix3 b s d)) (fun d => m ((c : Thread nD τ).loc main_arg2) (ix1 d)) fun k j => m ((c : Thread nD τ).loc main_arg3) (ix2 k j)

/-- The rotation angles of one position. -/
abbrev angle (b : Fin 2) (s : Fin 16384) : Fin 128 → EReal := Rows.angle (m ((c : Thread nD τ).loc main_arg1) (ix2 b s)) Rows.freq

theorem query_row (b : Fin 2) (s : Fin 16384) (e : Fin 2048) : V5 m ρ c main_v6 (ix3 b s e) = proj m c b s (Rows.part 0 (by decide) e) := by
  refine (query_flat m ρ c b s e).trans ((congrFun ((W4_arr m ρ c 2).trans (query (V3 m ρ) c)) (ix2 (Rows.row b s) e)).trans ?_)
  exact congrArg₂ Rows.dot ((funext fun d => congrFun (v3_kept_3 m ρ c) _).trans (norm_row m ρ c b s))
    (funext fun k => (w_query_at m ρ c k e).trans ((congrFun (v0_kept_2 m ρ c) _).trans (weight_at m ρ c k _)))

theorem key_row (b : Fin 2) (s : Fin 16384) (e : Fin 512) : V7 m ρ c main_v9 (ix3 b s e) = proj m c b s (Rows.part 2048 (by decide) e) := by
  refine (key_flat m ρ c b s e).trans ((congrFun ((W6_arr m ρ c 2).trans (key (V5 m ρ) c)) (ix2 (Rows.row b s) e)).trans ?_)
  exact congrArg₂ Rows.dot ((funext fun d => congrFun (v3_kept_5 m ρ c) _).trans (norm_row m ρ c b s))
    (funext fun k => (w_key_at m ρ c k e).trans ((congrFun (v0_kept_4 m ρ c) _).trans (weight_at m ρ c k _)))

theorem value_row (b : Fin 2) (s : Fin 16384) (e : Fin 512) : V9 m ρ c main_v12 (ix3 b s e) = proj m c b s (Rows.part 2560 (by decide) e) := by
  refine (value_flat m ρ c b s e).trans ((congrFun ((W8_arr m ρ c 2).trans (value (V7 m ρ) c)) (ix2 (Rows.row b s) e)).trans ?_)
  exact congrArg₂ Rows.dot ((funext fun d => congrFun (v3_kept_7 m ρ c) _).trans (norm_row m ρ c b s))
    (funext fun k => (w_value_at m ρ c k e).trans ((congrFun (v0_kept_6 m ρ c) _).trans (weight_at m ρ c k _)))

theorem index_query_row (b : Fin 2) (s : Fin 16384) (e : Fin 2048) : V11 m ρ c main_v15 (ix3 b s e) = proj m c b s (Rows.part 3072 (by decide) e) := by
  refine (index_query_flat m ρ c b s e).trans ((congrFun ((W10_arr m ρ c 2).trans (index_query (V9 m ρ) c)) (ix2 (Rows.row b s) e)).trans ?_)
  exact congrArg₂ Rows.dot ((funext fun d => congrFun (v3_kept_9 m ρ c) _).trans (norm_row m ρ c b s))
    (funext fun k => (w_index_query_at m ρ c k e).trans ((congrFun (v0_kept_8 m ρ c) _).trans (weight_at m ρ c k _)))

theorem index_key_row (b : Fin 2) (s : Fin 16384) (e : Fin 128) : V13 m ρ c main_v18 (ix3 b s e) = proj m c b s (Rows.part 5120 (by decide) e) := by
  refine (index_key_flat m ρ c b s e).trans ((congrFun ((W12_arr m ρ c 2).trans (index_key (V11 m ρ) c)) (ix2 (Rows.row b s) e)).trans ?_)
  exact congrArg₂ Rows.dot ((funext fun d => congrFun (v3_kept_11 m ρ c) _).trans (norm_row m ρ c b s))
    (funext fun k => (w_index_key_at m ρ c k e).trans ((congrFun (v0_kept_10 m ρ c) _).trans (weight_at m ρ c k _)))

theorem index_weight_row (b : Fin 2) (s : Fin 16384) (e : Fin 16) : V15 m ρ c main_v21 (ix3 b s e) = proj m c b s (Rows.part 5248 (by decide) e) := by
  refine (index_weight_flat m ρ c b s e).trans ((congrFun ((W14_arr m ρ c 2).trans (index_weight (V13 m ρ) c)) (ix2 (Rows.row b s) e)).trans ?_)
  exact congrArg₂ Rows.dot ((funext fun d => congrFun (v3_kept_13 m ρ c) _).trans (norm_row m ρ c b s))
    (funext fun k => (w_index_weight_at m ρ c k e).trans ((congrFun (v0_kept_12 m ρ c) _).trans (weight_at m ρ c k _)))

theorem v6_kept_15 : V15 m ρ c main_v6 = V5 m ρ c main_v6 :=
  (W15_of m ρ c main_v6 (by decide)).trans <| (W14_of m ρ c main_v6 (by decide)).trans <| (W13_of m ρ c main_v6 (by decide)).trans <| (W12_of m ρ c main_v6 (by decide)).trans <| (W11_of m ρ c main_v6 (by decide)).trans <| (W10_of m ρ c main_v6 (by decide)).trans <| (W9_of m ρ c main_v6 (by decide)).trans <| (W8_of m ρ c main_v6 (by decide)).trans <| (W7_of m ρ c main_v6 (by decide)).trans <| (W6_of m ρ c main_v6 (by decide))

theorem v9_kept_16 : V16 m ρ c main_v9 = V7 m ρ c main_v9 :=
  (W16_of m ρ c main_v9 (by decide)).trans <| (W15_of m ρ c main_v9 (by decide)).trans <| (W14_of m ρ c main_v9 (by decide)).trans <| (W13_of m ρ c main_v9 (by decide)).trans <| (W12_of m ρ c main_v9 (by decide)).trans <| (W11_of m ρ c main_v9 (by decide)).trans <| (W10_of m ρ c main_v9 (by decide)).trans <| (W9_of m ρ c main_v9 (by decide)).trans <| (W8_of m ρ c main_v9 (by decide))

theorem v15_kept_17 : V17 m ρ c main_v15 = V11 m ρ c main_v15 :=
  (W17_of m ρ c main_v15 (by decide)).trans <| (W16_of m ρ c main_v15 (by decide)).trans <| (W15_of m ρ c main_v15 (by decide)).trans <| (W14_of m ρ c main_v15 (by decide)).trans <| (W13_of m ρ c main_v15 (by decide)).trans <| (W12_of m ρ c main_v15 (by decide))

theorem v18_kept_18 : V18 m ρ c main_v18 = V13 m ρ c main_v18 :=
  (W18_of m ρ c main_v18 (by decide)).trans <| (W17_of m ρ c main_v18 (by decide)).trans <| (W16_of m ρ c main_v18 (by decide)).trans <| (W15_of m ρ c main_v18 (by decide)).trans <| (W14_of m ρ c main_v18 (by decide))

theorem v35_kept_16 : V16 m ρ c main_v35 = V15 m ρ c main_v35 :=
  (W16_of m ρ c main_v35 (by decide))

theorem v36_kept_16 : V16 m ρ c main_v36 = V15 m ρ c main_v36 :=
  (W16_of m ρ c main_v36 (by decide))

theorem angle_16 (b : Fin 2) (s : Fin 16384) : Rows.angle (V16 m ρ c main_v36 (ix3 b s 0)) (fun l => V16 m ρ c main_v35 (ix2 0 l)) = angle m c b s :=
  congrArg₂ Rows.angle ((congrFun (v36_kept_16 m ρ c) _).trans (position_at m ρ c b s))
    (funext fun l => (congrFun (v35_kept_16 m ρ c) _).trans (frequency_at m ρ c l))

theorem v35_kept_17 : V17 m ρ c main_v35 = V15 m ρ c main_v35 :=
  (W17_of m ρ c main_v35 (by decide)).trans <| (W16_of m ρ c main_v35 (by decide))

theorem v36_kept_17 : V17 m ρ c main_v36 = V15 m ρ c main_v36 :=
  (W17_of m ρ c main_v36 (by decide)).trans <| (W16_of m ρ c main_v36 (by decide))

theorem angle_17 (b : Fin 2) (s : Fin 16384) : Rows.angle (V17 m ρ c main_v36 (ix3 b s 0)) (fun l => V17 m ρ c main_v35 (ix2 0 l)) = angle m c b s :=
  congrArg₂ Rows.angle ((congrFun (v36_kept_17 m ρ c) _).trans (position_at m ρ c b s))
    (funext fun l => (congrFun (v35_kept_17 m ρ c) _).trans (frequency_at m ρ c l))

theorem v35_kept_18 : V18 m ρ c main_v35 = V15 m ρ c main_v35 :=
  (W18_of m ρ c main_v35 (by decide)).trans <| (W17_of m ρ c main_v35 (by decide)).trans <| (W16_of m ρ c main_v35 (by decide))

theorem v36_kept_18 : V18 m ρ c main_v36 = V15 m ρ c main_v36 :=
  (W18_of m ρ c main_v36 (by decide)).trans <| (W17_of m ρ c main_v36 (by decide)).trans <| (W16_of m ρ c main_v36 (by decide))

theorem angle_18 (b : Fin 2) (s : Fin 16384) : Rows.angle (V18 m ρ c main_v36 (ix3 b s 0)) (fun l => V18 m ρ c main_v35 (ix2 0 l)) = angle m c b s :=
  congrArg₂ Rows.angle ((congrFun (v36_kept_18 m ρ c) _).trans (position_at m ρ c b s))
    (funext fun l => (congrFun (v35_kept_18 m ρ c) _).trans (frequency_at m ρ c l))

theorem angle_15 (b : Fin 2) (s : Fin 16384) : Rows.angle (V15 m ρ c main_v36 (ix3 b s 0)) (fun l => V15 m ρ c main_v35 (ix2 0 l)) = angle m c b s :=
  congrArg₂ Rows.angle (position_at m ρ c b s) (funext (frequency_at m ρ c))

theorem rotated_query_at (b : Fin 2) (s : Fin 16384) (e : Fin 2048) : V16 m ρ c main_v37 (ix3 b s e)
    = Rows.rotary (fun l => proj m c b s (Rows.part 0 (by decide) (Rows.headOf e l))) (angle m c b s) (Rows.lane e) := by
  refine (congrFun ((W16_arr m ρ c 3).trans (rotated_query (V15 m ρ) c)) (ix3 b s e)).trans ?_
  refine (congrFun (congrArg₂ Rows.spread (funext fun l => (congrFun (v6_kept_15 m ρ c) _).trans (query_row m ρ c b s _)) (angle_15 m ρ c b s)) _).trans (Rows.spread_eq _ _ _)

theorem rotated_key_at (b : Fin 2) (s : Fin 16384) (e : Fin 512) : V17 m ρ c main_v38 (ix3 b s e)
    = Rows.rotary (fun l => proj m c b s (Rows.part 2048 (by decide) (Rows.head e l))) (angle m c b s) (Rows.lane e) := by
  refine (congrFun ((W17_arr m ρ c 3).trans (rotated_key (V16 m ρ) c)) (ix3 b s e)).trans ?_
  refine (congrFun (congrArg₂ Rows.spread (funext fun l => (congrFun (v9_kept_16 m ρ c) _).trans (key_row m ρ c b s _)) (angle_16 m ρ c b s)) _).trans (Rows.spread_eq _ _ _)

theorem rotated_index_key_at (b : Fin 2) (s : Fin 16384) (e : Fin 128) : V19 m ρ c main_v40 (ix3 b s e)
    = Rows.rotary (fun l => proj m c b s (Rows.part 5120 (by decide) (l))) (angle m c b s) (e) := by
  refine (congrFun ((W19_arr m ρ c 3).trans (rotated_index_key (V18 m ρ) c)) (ix3 b s e)).trans ?_
  refine (congrFun (congrArg₂ Rows.spread (funext fun l => (congrFun (v18_kept_18 m ρ c) _).trans (index_key_row m ρ c b s _)) (angle_18 m ρ c b s)) _).trans (Rows.spread_eq _ _ _)

theorem rotated_index_query_at (b : Fin 2) (q : Fin 64) (h : Fin 16) (s : Fin 256) (l : Fin 128) : V18 m ρ c main_v39 (ix5 b q h s l)
    = Rows.rotary (fun l => proj m c b (Rows.place q s) (Rows.part 3072 (by decide) (Rows.headAt h l))) (angle m c b (Rows.place q s)) l := by
  refine (congrFun ((W18_arr m ρ c 3).trans (rotated_index_query (V17 m ρ) c)) (ix5 b q h s l)).trans ?_
  refine (congrFun (congrArg₂ Rows.spread (funext fun l => (congrFun (v15_kept_17 m ρ c) _).trans (index_query_row m ρ c b (Rows.place q s) _))
    (angle_17 m ρ c b (Rows.place q s))) _).trans (Rows.spread_eq _ _ _)

theorem v37_kept_19 : V19 m ρ c main_v37 = V16 m ρ c main_v37 :=
  (W19_of m ρ c main_v37 (by decide)).trans <| (W18_of m ρ c main_v37 (by decide)).trans <| (W17_of m ρ c main_v37 (by decide))

theorem v39_kept_19 : V19 m ρ c main_v39 = V18 m ρ c main_v39 :=
  (W19_of m ρ c main_v39 (by decide))

theorem v38_kept_20 : W20 m ρ c (Proc.devRef .tc main_v38) = V17 m ρ c main_v38 :=
  (W20_of m ρ c main_v38 (by decide)).trans <| (W19_of m ρ c main_v38 (by decide)).trans <| (W18_of m ρ c main_v38 (by decide))

theorem v12_kept_20 : W20 m ρ c (Proc.devRef .tc main_v12) = V9 m ρ c main_v12 :=
  (W20_of m ρ c main_v12 (by decide)).trans <| (W19_of m ρ c main_v12 (by decide)).trans <| (W18_of m ρ c main_v12 (by decide)).trans <| (W17_of m ρ c main_v12 (by decide)).trans <| (W16_of m ρ c main_v12 (by decide)).trans <| (W15_of m ρ c main_v12 (by decide)).trans <| (W14_of m ρ c main_v12 (by decide)).trans <| (W13_of m ρ c main_v12 (by decide)).trans <| (W12_of m ρ c main_v12 (by decide)).trans <| (W11_of m ρ c main_v12 (by decide)).trans <| (W10_of m ρ c main_v12 (by decide))

theorem v21_kept_20 : W20 m ρ c (Proc.devRef .tc main_v21) = V15 m ρ c main_v21 :=
  (W20_of m ρ c main_v21 (by decide)).trans <| (W19_of m ρ c main_v21 (by decide)).trans <| (W18_of m ρ c main_v21 (by decide)).trans <| (W17_of m ρ c main_v21 (by decide)).trans <| (W16_of m ρ c main_v21 (by decide))

theorem result_query (b : Fin 2) (s : Fin 16384) (e : Fin 2048) : W20 m ρ c (Proc.devRef .tc main_v43) (ix3 b s e) = Rows.rotary (fun l => proj m c b s (Rows.part 0 (by decide) (Rows.headOf e l))) (angle m c b s) (Rows.lane e) := by
  refine Eq.trans (b := V19 m ρ c main_v37 (ix3 b s e)) ?_ ((congrFun (v37_kept_19 m ρ c) _).trans (rotated_query_at m ρ c b s e))
  show StableHlo.after hostOps11 _ _ _ = _
  after_results
  pointwise

theorem result_key (b : Fin 2) (s : Fin 16384) (e : Fin 512) : W20 m ρ c (Proc.devRef .tc main_v38) (ix3 b s e) = Rows.rotary (fun l => proj m c b s (Rows.part 2048 (by decide) (Rows.head e l))) (angle m c b s) (Rows.lane e) :=
  (congrFun (v38_kept_20 m ρ c) _).trans (rotated_key_at m ρ c b s e)

theorem result_value (b : Fin 2) (s : Fin 16384) (e : Fin 512) : W20 m ρ c (Proc.devRef .tc main_v12) (ix3 b s e) = proj m c b s (Rows.part 2560 (by decide) e) :=
  (congrFun (v12_kept_20 m ρ c) _).trans (value_row m ρ c b s e)

theorem result_index_query (b : Fin 2) (s : Fin 16384) (e : Fin 2048) : W20 m ρ c (Proc.devRef .tc main_v44) (ix3 b s e) = Rows.rotary (fun l => proj m c b s (Rows.part 3072 (by decide) (Rows.headOf e l))) (angle m c b s) (Rows.lane e) := by
  have hs : Rows.place ⟨s.val / 256, by omega⟩ ⟨s.val % 256, by omega⟩ = s := Fin.ext (by show s.val / 256 * 256 + s.val % 256 = s.val; omega)
  refine Eq.trans (b := V19 m ρ c main_v39 (ix5 b ⟨s.val / 256, by omega⟩ ⟨e.val / 128, by omega⟩ ⟨s.val % 256, by omega⟩ (Rows.lane e))) ?_
    ((congrFun (v39_kept_19 m ρ c) _).trans ((rotated_index_query_at m ρ c b _ _ _ _).trans ?_))
  · show StableHlo.after hostOps11 _ _ _ = _
    after_results
    pointwise [Rows.lane]
  · rw [hs]
    rfl

theorem result_index_key (b : Fin 2) (s : Fin 16384) (e : Fin 128) : W20 m ρ c (Proc.devRef .tc main_v45) (ix3 b s e) = Rows.rotary (fun l => proj m c b s (Rows.part 5120 (by decide) (l))) (angle m c b s) (e) := by
  refine Eq.trans (b := V19 m ρ c main_v40 (ix3 b s e)) ?_ (rotated_index_key_at m ρ c b s e)
  show StableHlo.after hostOps11 _ _ _ = _
  after_results
  pointwise

theorem result_index_weight (b : Fin 2) (s : Fin 16384) (e : Fin 16) : W20 m ρ c (Proc.devRef .tc main_v21) (ix3 b s e) = proj m c b s (Rows.part 5248 (by decide) e) :=
  (congrFun (v21_kept_20 m ρ c) _).trans (index_weight_row m ρ c b s e)

set_option backward.isDefEq.respectTransparency.types false in
/-- The launch over the segments, with the results read at the last boundary. -/
theorem run_main : θ_run defs (onTc (τ := τ) (main (F := Ideal))) ⟨m, fun _ => 0, ρ⟩ (fun r => ∀ c : Dev nD,
      r.2.mem ((c.tc : Thread nD τ).loc main_v43) = W20 m ρ c (Proc.devRef .tc main_v43)
      ∧ r.2.mem ((c.tc : Thread nD τ).loc main_v38) = W20 m ρ c (Proc.devRef .tc main_v38)
      ∧ r.2.mem ((c.tc : Thread nD τ).loc main_v12) = W20 m ρ c (Proc.devRef .tc main_v12)
      ∧ r.2.mem ((c.tc : Thread nD τ).loc main_v44) = W20 m ρ c (Proc.devRef .tc main_v44)
      ∧ r.2.mem ((c.tc : Thread nD τ).loc main_v45) = W20 m ρ c (Proc.devRef .tc main_v45)
      ∧ r.2.mem ((c.tc : Thread nD τ).loc main_v21) = W20 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => fun c => ⟨h c _ (mem_uc main_v43 (by decide)), h c _ (mem_uc main_v38 (by decide)), h c _ (mem_uc main_v12 (by decide)), h c _ (mem_uc main_v44 (by decide)), h c _ (mem_uc main_v45 (by decide)), h c _ (mem_uc main_v21 (by decide)),
      (h c _ (mem_uc main_arg0 (by decide))).trans (W20_main_arg0 m ρ c),
      (h c _ (mem_uc main_arg1 (by decide))).trans (W20_main_arg1 m ρ c),
      (h c _ (mem_uc main_arg2 (by decide))).trans (W20_main_arg2 m ρ c),
      (h c _ (mem_uc main_arg3 (by decide))).trans (W20_main_arg3 m ρ c)⟩)

end Cert.Kernel3Ideal.Head

end
-- ==== Proof.HeadReference.lean ====
/-
  The reference of the sparse attention's input projections, stage by stage.
-/
module

public import proofs.«01_k».proof.Proof.Gen.Reference3Ideal.Read
public import proofs.«01_k».proof.Proof.Rotary
public import Idealize.ShloMosaic.Lib.ValueIdx
public import Idealize.ShloMosaic.Lib.Pointwise

@[expose] public section

set_option maxRecDepth 16384

noncomputable section

open Idealize.ShloMosaic

namespace Cert.Reference3Ideal.Head

open Cert.Reference3Ideal Cert.Reference3Ideal.Gen Cert.Reference3Ideal.Read

variable (x0 : (⟨S2x16384x2048, .f32⟩ : BufTy).Contents (Elt Ideal))
  (x1 : (⟨S2x16384, .i32⟩ : BufTy).Contents (Elt Ideal))
  (x2 : (⟨S2048, .f32⟩ : BufTy).Contents (Elt Ideal))
  (x3 : (⟨S2048x5264, .f32⟩ : BufTy).Contents (Elt Ideal))

theorem norm_at (b : Fin 2) (s : Fin 16384) (d : Fin 2048) :
    val_main_v30 x0 x2 (ix3 b s d) = Rows.norm (fun d => x0 (ix3 b s d)) (fun d => x2 (ix1 d)) d := by
  pointwise [val_main_v30, val_main_v29, val_main_v28, val_main_v27, val_main_v26, val_main_v25, val_main_v24, val_main_v23, val_main_v22, val_main_v21, val_main_v20, val_main_v19, val_main_v18, val_main_cst_3, val_main_cst_4, val_main_cst_5, Rows.norm]

theorem proj_at (b : Fin 2) (s : Fin 16384) (j : Fin 5264) :
    val_main_v31 x0 x2 x3 (ix3 b s j) = Rows.proj (fun d => x0 (ix3 b s d)) (fun d => x2 (ix1 d)) (fun k j => x3 (ix2 k j)) j := by
  refine Eq.trans (b := Rows.times (fun d => val_main_v30 x0 x2 (ix3 b s d)) (fun k j => x3 (ix2 k j)) j) ?_ ?_
  · pointwise [val_main_v31, Rows.times, Rows.dot]
  · simp only [norm_at]
    rfl

theorem angle_at (b : Fin 2) (s : Fin 16384) (k : Fin 16) (l : Fin 128) (h : l.val % 16 = k.val) :
    val_main_v15 x1 (ix3 b s k) = Rows.angle (x1 (ix2 b s)) Rows.freq l := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, Rows.angle, Rows.freq]
  rw [h]

/-- The reference's three ranges of lanes are one rotation. -/
theorem turn (x : Fin 128 → EReal) (c : Fin 16 → EReal) (a : Fin 128 → EReal) (h : ∀ k l, l.val % 16 = k.val → c k = a l)
    (l : Fin 128) :
    (if h : l.val < 32 then
        if h' : l.val < 16 then
          x l * Ideal.cos (c ⟨l.val, by omega⟩) - x ⟨16 + l.val, by omega⟩ * Ideal.sin (c ⟨l.val, by omega⟩)
        else
          x ⟨16 + (l.val - 16), by omega⟩ * Ideal.cos (c ⟨l.val - 16, by omega⟩)
            + x ⟨l.val - 16, by omega⟩ * Ideal.sin (c ⟨l.val - 16, by omega⟩)
      else x ⟨32 + (l.val - 32), by omega⟩)
      = Rows.rotary x a l := by
  have e16 (h : ¬ l.val < 16) : (⟨16 + (l.val - 16), by omega⟩ : Fin 128) = l := Fin.ext (by show 16 + (l.val - 16) = l.val; omega)
  have e32 (h : ¬ l.val < 32) : (⟨32 + (l.val - 32), by omega⟩ : Fin 128) = l := Fin.ext (by show 32 + (l.val - 32) = l.val; omega)
  have ea (h : l.val < 16) : (⟨16 + l.val, by omega⟩ : Fin 128) = Rows.ahead l :=
    Fin.ext (by show 16 + l.val = (l.val + 16) % 128; omega)
  have eb (h : ¬ l.val < 16) : (⟨l.val - 16, by omega⟩ : Fin 128) = Rows.behind l :=
    Fin.ext (by show l.val - 16 = (l.val + 112) % 128; omega)
  unfold Rows.rotary
  by_cases h1 : l.val < 16
  · have h2 : l.val < 32 := by omega
    rw [dif_pos h2, dif_pos h1, if_pos h1, ea h1, h ⟨l.val, h1⟩ l (Nat.mod_eq_of_lt h1)]
  · by_cases h2 : l.val < 32
    · rw [dif_pos h2, dif_neg h1, if_neg h1, if_pos h2, e16 h1, eb h1,
        h ⟨l.val - 16, by omega⟩ l (by show l.val % 16 = l.val - 16; omega)]
    · rw [dif_neg h2, if_neg h1, if_neg h2, e32 h2]

theorem query_head_at (b : Fin 2) (s : Fin 16384) (h : Fin 16) (l : Fin 128) :
    val_main_v55 x0 x1 x2 x3 (ix4 b s h l)
      = Rows.rotary (fun l => val_main_v38 x0 x2 x3 (ix4 b s h l)) (Rows.angle (x1 (ix2 b s)) Rows.freq) l := by
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v16, val_main_v17]
  exact turn (fun l => val_main_v38 x0 x2 x3 (ix4 b s h l)) (fun k => val_main_v15 x1 (ix3 b s k)) _
    (fun k l h => angle_at x1 b s k l h) l

theorem query_at (b : Fin 2) (s : Fin 16384) (e : Fin 2048) :
    val_main_v56 x0 x1 x2 x3 (ix3 b s e)
      = Rows.rotary (fun l => Rows.proj (fun d => x0 (ix3 b s d)) (fun d => x2 (ix1 d)) (fun k j => x3 (ix2 k j)) (Rows.part 0 (by decide) (Rows.headOf e l)))
        (Rows.angle (x1 (ix2 b s)) Rows.freq) (Rows.lane e) := by
  refine Eq.trans (b := val_main_v55 x0 x1 x2 x3 (ix4 b s ⟨e.val / 128, by omega⟩ (Rows.lane e)))
    (by pointwise [val_main_v56, Rows.lane]) ((query_head_at x0 x1 x2 x3 b s _ _).trans ?_)
  refine congrFun (congrArg₂ Rows.rotary (funext fun l => ?_) rfl) _
  refine Eq.trans (b := val_main_v31 x0 x2 x3 (ix3 b s (Rows.part 0 (by decide) (Rows.headOf e l)))) ?_ (proj_at x0 x2 x3 b s _)
  pointwise [val_main_v38, val_main_v32, Rows.part, Rows.headOf]

theorem key_head_at (b : Fin 2) (s : Fin 16384) (h : Fin 4) (l : Fin 128) :
    val_main_v74 x0 x1 x2 x3 (ix4 b s h l)
      = Rows.rotary (fun l => val_main_v57 x0 x2 x3 (ix4 b s h l)) (Rows.angle (x1 (ix2 b s)) Rows.freq) l := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v16, val_main_v17]
  exact turn (fun l => val_main_v57 x0 x2 x3 (ix4 b s h l)) (fun k => val_main_v15 x1 (ix3 b s k)) _
    (fun k l h => angle_at x1 b s k l h) l

theorem key_at (b : Fin 2) (s : Fin 16384) (e : Fin 512) :
    val_main_v75 x0 x1 x2 x3 (ix3 b s e)
      = Rows.rotary (fun l => Rows.proj (fun d => x0 (ix3 b s d)) (fun d => x2 (ix1 d)) (fun k j => x3 (ix2 k j)) (Rows.part 2048 (by decide) (Rows.head e l)))
        (Rows.angle (x1 (ix2 b s)) Rows.freq) (Rows.lane e) := by
  refine Eq.trans (b := val_main_v74 x0 x1 x2 x3 (ix4 b s ⟨e.val / 128, by omega⟩ (Rows.lane e)))
    (by pointwise [val_main_v75, Rows.lane]) ((key_head_at x0 x1 x2 x3 b s _ _).trans ?_)
  refine congrFun (congrArg₂ Rows.rotary (funext fun l => ?_) rfl) _
  refine Eq.trans (b := val_main_v31 x0 x2 x3 (ix3 b s (Rows.part 2048 (by decide) (Rows.head e l)))) ?_ (proj_at x0 x2 x3 b s _)
  pointwise [val_main_v57, val_main_v33, Rows.part, Rows.head]

theorem index_query_head_at (b : Fin 2) (s : Fin 16384) (h : Fin 16) (l : Fin 128) :
    val_main_v93 x0 x1 x2 x3 (ix4 b s h l)
      = Rows.rotary (fun l => val_main_v76 x0 x2 x3 (ix4 b s h l)) (Rows.angle (x1 (ix2 b s)) Rows.freq) l := by
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v16, val_main_v17]
  exact turn (fun l => val_main_v76 x0 x2 x3 (ix4 b s h l)) (fun k => val_main_v15 x1 (ix3 b s k)) _
    (fun k l h => angle_at x1 b s k l h) l

theorem index_query_at (b : Fin 2) (s : Fin 16384) (e : Fin 2048) :
    val_main_v94 x0 x1 x2 x3 (ix3 b s e)
      = Rows.rotary (fun l => Rows.proj (fun d => x0 (ix3 b s d)) (fun d => x2 (ix1 d)) (fun k j => x3 (ix2 k j)) (Rows.part 3072 (by decide) (Rows.headOf e l)))
        (Rows.angle (x1 (ix2 b s)) Rows.freq) (Rows.lane e) := by
  refine Eq.trans (b := val_main_v93 x0 x1 x2 x3 (ix4 b s ⟨e.val / 128, by omega⟩ (Rows.lane e)))
    (by pointwise [val_main_v94, Rows.lane]) ((index_query_head_at x0 x1 x2 x3 b s _ _).trans ?_)
  refine congrFun (congrArg₂ Rows.rotary (funext fun l => ?_) rfl) _
  refine Eq.trans (b := val_main_v31 x0 x2 x3 (ix3 b s (Rows.part 3072 (by decide) (Rows.headOf e l)))) ?_ (proj_at x0 x2 x3 b s _)
  pointwise [val_main_v76, val_main_v35, Rows.part, Rows.headOf]

theorem index_key_head_at (b : Fin 2) (s : Fin 16384) (l : Fin 128) :
    val_main_v108 x0 x1 x2 x3 (ix4 b s 0 l)
      = Rows.rotary (fun l => val_main_v95 x0 x2 x3 (ix4 b s 0 l)) (Rows.angle (x1 (ix2 b s)) Rows.freq) l := by
  pointwise [val_main_v108, val_main_v107, val_main_v106, val_main_v105, val_main_v104, val_main_v103, val_main_v102, val_main_v101, val_main_v100, val_main_v99, val_main_v98, val_main_v97, val_main_v96, val_main_v16, val_main_v17]
  exact turn (fun l => val_main_v95 x0 x2 x3 (ix4 b s 0 l)) (fun k => val_main_v15 x1 (ix3 b s k)) _
    (fun k l h => angle_at x1 b s k l h) l

theorem index_key_at (b : Fin 2) (s : Fin 16384) (e : Fin 128) :
    val_main_v109 x0 x1 x2 x3 (ix3 b s e)
      = Rows.rotary (fun l => Rows.proj (fun d => x0 (ix3 b s d)) (fun d => x2 (ix1 d)) (fun k j => x3 (ix2 k j)) (Rows.part 5120 (by decide) l))
        (Rows.angle (x1 (ix2 b s)) Rows.freq) e := by
  refine Eq.trans (b := val_main_v108 x0 x1 x2 x3 (ix4 b s 0 e)) (by pointwise [val_main_v109]) ((index_key_head_at x0 x1 x2 x3 b s e).trans ?_)
  refine congrFun (congrArg₂ Rows.rotary (funext fun l => ?_) rfl) _
  refine Eq.trans (b := val_main_v31 x0 x2 x3 (ix3 b s (Rows.part 5120 (by decide) l))) ?_ (proj_at x0 x2 x3 b s _)
  pointwise [val_main_v95, val_main_v36, Rows.part]

theorem value_at (b : Fin 2) (s : Fin 16384) (e : Fin 512) :
    val_main_v34 x0 x2 x3 (ix3 b s e)
      = Rows.proj (fun d => x0 (ix3 b s d)) (fun d => x2 (ix1 d)) (fun k j => x3 (ix2 k j)) (Rows.part 2560 (by decide) e) := by
  refine Eq.trans (b := val_main_v31 x0 x2 x3 (ix3 b s (Rows.part 2560 (by decide) e))) ?_ (proj_at x0 x2 x3 b s _)
  pointwise [val_main_v34, Rows.part]

theorem index_weight_at (b : Fin 2) (s : Fin 16384) (e : Fin 16) :
    val_main_v37 x0 x2 x3 (ix3 b s e)
      = Rows.proj (fun d => x0 (ix3 b s d)) (fun d => x2 (ix1 d)) (fun k j => x3 (ix2 k j)) (Rows.part 5248 (by decide) e) := by
  refine Eq.trans (b := val_main_v31 x0 x2 x3 (ix3 b s (Rows.part 5248 (by decide) e))) ?_ (proj_at x0 x2 x3 b s _)
  pointwise [val_main_v37, Rows.part]

end Cert.Reference3Ideal.Head

end
-- ==== Proof.lean ====
module

public import proofs.«01_k».proof.Defs
public import proofs.«01_k».proof.Proof.ScoresArray
public import proofs.«01_k».proof.Proof.ScoresReference
public import Idealize.ShloMosaic.Lib.Quiescent
public import proofs.«01_k».proof.Proof.TailRun
public import proofs.«01_k».proof.Proof.TailReference
public import proofs.«01_k».proof.Proof.Gen.Kernel2.Frame
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.PoolArray
public import proofs.«01_k».proof.Proof.PoolFinite
public import proofs.«01_k».proof.Proof.HeadRun
public import proofs.«01_k».proof.Proof.HeadReference
public import proofs.«01_k».proof.Proof.Gen.Reference3Ideal.Run
public import proofs.«01_k».proof.Proof.ScoresRunBits
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The index scores as the idealized kernel leaves them. -/
abbrev scores (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v11) :=
  Cert.ReferenceIdeal.Read.val_main_v16 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

/-- The kernel's result is the reference's function of its arguments. -/
theorem kernel_scores (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (Cert.KernelIdeal.Scores.dats m) 0 (Cert.KernelIdeal.Gen.V0 m)
      [Cert.KernelIdeal.Gen.hostOps1, Cert.KernelIdeal.Gen.hostOps1_1] c Cert.KernelIdeal.main_v11 = scores m c := by
  funext j
  idx_vars j
  refine (Cert.KernelIdeal.Scores.tail_at m c j0 j1 j2).trans (Eq.trans ?_ (Cert.ReferenceIdeal.Scores.result_at _ _ _ j0 j1 j2).symm)
  split_ifs with h
  · exact Cert.KernelIdeal.Scores.array_at m c (ix3 j0 j1 j2) h
  · rfl

theorem algebraic : algebraic_KernelIdeal_ReferenceIdeal (hKernelIdeal := Cert.KernelIdeal.Gen.facts)
    (hReferenceIdeal := Cert.ReferenceIdeal.Gen.facts) := by
  intro m g m' g' _ hm
  refine ⟨scores m, ?_, ?_⟩
  · refine (θ_run Cert.KernelIdeal.defs _ _).mono (fun r h c => ⟨?_, h.2 c⟩)
      (θ_run_and (Cert.KernelIdeal.Scores.run_main m g) (Cert.KernelIdeal.Scores.unchanged m g))
    exact ((h.1 c).2 Cert.KernelIdeal.main_v11 (Pipeline.mem_restRefs_of Cert.KernelIdeal.main_v11 (by decide) (by decide))).trans
      (kernel_scores m c)
  · refine (θ_run Cert.ReferenceIdeal.defs _ _).mono (fun r h c => ⟨?_, (h c).2⟩) (Cert.ReferenceIdeal.Value.run m' g')
    refine (h c).1.trans ((Cert.ReferenceIdeal.Read.val_main_v16_eq _ _ _).trans ?_)
    obtain ⟨e0, e1, e2⟩ := hm c
    exact congr (congr (congrArg (Cert.ReferenceIdeal.Read.val_main_v16 (F := Ideal)) e0) e1) e2

/-- The layer's second half, as the reference's function of the kernel's arguments. -/
abbrev tail (m : (ℓ : Loc Cert.Kernel2Ideal.nD Cert.Kernel2Ideal.τ Cert.Kernel2Ideal.sig) → Buf (Elt Ideal) ℓ)
    (c : Dev Cert.Kernel2Ideal.nD) : Buf (Elt Ideal) ((c.tc : Thread Cert.Kernel2Ideal.nD Cert.Kernel2Ideal.τ).loc Cert.Kernel2Ideal.main_v44) :=
  Cert.Reference2Ideal.Read.val_main_v123 (F := Ideal)
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9))
    (m ((c.tc : Thread Cert.Kernel2Ideal.nD Cert.Kernel2Ideal.τ).loc Cert.Kernel2Ideal.main_arg10))

theorem kernel_tail (m : (ℓ : Loc Cert.Kernel2Ideal.nD Cert.Kernel2Ideal.τ Cert.Kernel2Ideal.sig) → Buf (Elt Ideal) ℓ)
    (ρ : Dev Cert.Kernel2Ideal.nD → PrngReg) (c : Dev Cert.Kernel2Ideal.nD) :
    Cert.Kernel2Ideal.Gen.W27 m ρ c (Proc.devRef .tc Cert.Kernel2Ideal.main_v44) = tail m c := by
  funext j
  idx_vars j
  exact (Cert.Kernel2Ideal.Tail.result_at m ρ c j0 j1 j2).trans (Cert.Reference2Ideal.Tail.result_at _ _ _ _ _ _ _ _ _ _ _ j0 j1 j2).symm

theorem algebraic_tail : algebraic_Kernel2Ideal_Reference2Ideal (hKernel2Ideal := Cert.Kernel2Ideal.Gen.facts)
    (hReference2Ideal := Cert.Reference2Ideal.Gen.facts) := by
  intro m g m' g' _ hm
  refine ⟨tail m, ?_, ?_⟩
  · exact (θ_run Cert.Kernel2Ideal.defs _ _).mono (fun r h c => ⟨(h c).1.trans (kernel_tail m g c), (h c).2⟩) (Cert.Kernel2Ideal.Tail.run_main m g)
  · refine (θ_run Cert.Reference2Ideal.defs _ _).mono (fun r h c => ⟨?_, (h c).2⟩) (Cert.Reference2Ideal.Value.run m' g')
    refine (h c).1.trans ((Cert.Reference2Ideal.Read.val_main_v123_eq _).trans ?_)
    obtain ⟨e0, e1, e2, e3, e4, e5, e6, e7, e8, e9, e10⟩ := hm c
    exact congr (congr (congr (congr (congr (congr (congr (congr (congr (congr (congrArg (Cert.Reference2Ideal.Read.val_main_v123 (F := Ideal))
      e0) e1) e2) e3) e4) e5) e6) e7) e8) e9) e10

/-- The rotated queries, as the reference's function of the kernel's arguments. -/
abbrev query (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v43) :=
  Cert.Reference3Ideal.Read.val_main_v56 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_query (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v43) = query m c := by
  funext j
  idx_vars j
  exact (Cert.Kernel3Ideal.Head.result_query m ρ c j0 j1 j2).trans (Cert.Reference3Ideal.Head.query_at _ _ _ _ j0 j1 j2).symm

/-- The rotated keys, as the reference's function of the kernel's arguments. -/
abbrev key (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v38) :=
  Cert.Reference3Ideal.Read.val_main_v75 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_key (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v38) = key m c := by
  funext j
  idx_vars j
  exact (Cert.Kernel3Ideal.Head.result_key m ρ c j0 j1 j2).trans (Cert.Reference3Ideal.Head.key_at _ _ _ _ j0 j1 j2).symm

/-- The values, as the reference's function of the kernel's arguments. -/
abbrev value (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v12) :=
  Cert.Reference3Ideal.Read.val_main_v34 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_value (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v12) = value m c := by
  funext j
  idx_vars j
  exact (Cert.Kernel3Ideal.Head.result_value m ρ c j0 j1 j2).trans (Cert.Reference3Ideal.Head.value_at _ _ _ j0 j1 j2).symm

/-- The rotated index queries, as the reference's function of the kernel's arguments. -/
abbrev indexQuery (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v44) :=
  Cert.Reference3Ideal.Read.val_main_v94 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_index_query (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v44) = indexQuery m c := by
  funext j
  idx_vars j
  exact (Cert.Kernel3Ideal.Head.result_index_query m ρ c j0 j1 j2).trans (Cert.Reference3Ideal.Head.index_query_at _ _ _ _ j0 j1 j2).symm

/-- The rotated index keys, as the reference's function of the kernel's arguments. -/
abbrev indexKey (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v45) :=
  Cert.Reference3Ideal.Read.val_main_v109 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_index_key (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v45) = indexKey m c := by
  funext j
  idx_vars j
  exact (Cert.Kernel3Ideal.Head.result_index_key m ρ c j0 j1 j2).trans (Cert.Reference3Ideal.Head.index_key_at _ _ _ _ j0 j1 j2).symm

/-- The index weights, as the reference's function of the kernel's arguments. -/
abbrev indexWeight (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v21) :=
  Cert.Reference3Ideal.Read.val_main_v37 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem kernel_index_weight (m : (ℓ : Loc Cert.Kernel3Ideal.nD Cert.Kernel3Ideal.τ Cert.Kernel3Ideal.sig) → Buf (Elt Ideal) ℓ) (ρ : Dev Cert.Kernel3Ideal.nD → PrngReg) (c : Dev Cert.Kernel3Ideal.nD) :
    Cert.Kernel3Ideal.Gen.W20 m ρ c (Proc.devRef .tc Cert.Kernel3Ideal.main_v21) = indexWeight m c := by
  funext j
  idx_vars j
  exact (Cert.Kernel3Ideal.Head.result_index_weight m ρ c j0 j1 j2).trans (Cert.Reference3Ideal.Head.index_weight_at _ _ _ j0 j1 j2).symm

theorem algebraic_head : algebraic_Kernel3Ideal_Reference3Ideal (hKernel3Ideal := Cert.Kernel3Ideal.Gen.facts)
    (hReference3Ideal := Cert.Reference3Ideal.Gen.facts) := by
  intro m g m' g' _ hm
  refine ⟨query m, key m, value m, indexQuery m, indexKey m, indexWeight m, ?_, ?_⟩
  · refine (θ_run Cert.Kernel3Ideal.defs _ _).mono (fun r h c => ?_) (Cert.Kernel3Ideal.Head.run_main m g)
    obtain ⟨h0, h1, h2, h3, h4, h5, h⟩ := h c
    exact ⟨h0.trans (kernel_query m g c), h1.trans (kernel_key m g c), h2.trans (kernel_value m g c), h3.trans (kernel_index_query m g c), h4.trans (kernel_index_key m g c), h5.trans (kernel_index_weight m g c), h⟩
  · refine (θ_run Cert.Reference3Ideal.defs _ _).mono (fun r h c => ?_) (Cert.Reference3Ideal.Value.run m' g')
    obtain ⟨h0, h1, h2, h3, h4, h5, h⟩ := h c
    obtain ⟨e0, e1, e2, e3⟩ := hm c
    exact ⟨h0.trans ((Cert.Reference3Ideal.Read.val_main_v56_eq m' c).trans (congr (congr (congr (congrArg (Cert.Reference3Ideal.Read.val_main_v56 (F := Ideal)) e0) e1) e2) e3)),
      h1.trans ((Cert.Reference3Ideal.Read.val_main_v75_eq m' c).trans (congr (congr (congr (congrArg (Cert.Reference3Ideal.Read.val_main_v75 (F := Ideal)) e0) e1) e2) e3)),
      h2.trans ((Cert.Reference3Ideal.Read.val_main_v34_eq _ _ _).trans (congr (congr (congrArg (Cert.Reference3Ideal.Read.val_main_v34 (F := Ideal)) e0) e2) e3)),
      h3.trans ((Cert.Reference3Ideal.Read.val_main_v94_eq m' c).trans (congr (congr (congr (congrArg (Cert.Reference3Ideal.Read.val_main_v94 (F := Ideal)) e0) e1) e2) e3)),
      h4.trans ((Cert.Reference3Ideal.Read.val_main_v109_eq m' c).trans (congr (congr (congr (congrArg (Cert.Reference3Ideal.Read.val_main_v109 (F := Ideal)) e0) e1) e2) e3)),
      h5.trans ((Cert.Reference3Ideal.Read.val_main_v37_eq _ _ _).trans (congr (congr (congrArg (Cert.Reference3Ideal.Read.val_main_v37 (F := Ideal)) e0) e2) e3)), h⟩

/-- The pooling mixer, as the idealized kernel leaves it. -/
abbrev pooled (m : (ℓ : Loc Cert.Kernel4Ideal.nD Cert.Kernel4Ideal.τ Cert.Kernel4Ideal.sig) → Buf (Elt Ideal) ℓ) (c : Dev Cert.Kernel4Ideal.nD) :
    Buf (Elt Ideal) ((c.tc : Thread Cert.Kernel4Ideal.nD Cert.Kernel4Ideal.τ).loc Cert.Kernel4Ideal.main_v2) :=
  Cert.Reference4Ideal.Read.val_main_v77 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))

/-- On a finite input the windows summed directly are the differences of the running sums. -/
theorem kernel_pooled (m : (ℓ : Loc Cert.Kernel4Ideal.nD Cert.Kernel4Ideal.τ Cert.Kernel4Ideal.sig) → Buf (Elt Ideal) ℓ)
    (hf : Pre_Kernel4Ideal_finite (hPre_finite := Cert.Pre_finite.Gen.facts) m) (c : Dev Cert.Kernel4Ideal.nD) :
    (Cert.Kernel4Ideal.Gen.dats m 0 c).arrAt 4 (Cert.Kernel4Ideal.cfgs 0).N = pooled m c := by
  funext j
  refine (Cert.Kernel4Ideal.Pool.array_at m c j).trans ?_
  idx_vars j
  exact (Cert.Reference4Ideal.Pool.reference_at _ _ _ (Cert.Reference4Ideal.Pool.finite_of _ _ _ (hf c)) j0 j1 j2).symm

theorem algebraic_pool : algebraic_Kernel4Ideal_Reference4Ideal_pre_finite (hKernel4Ideal := Cert.Kernel4Ideal.Gen.facts)
    (hReference4Ideal := Cert.Reference4Ideal.Gen.facts) (hPre_finite := Cert.Pre_finite.Gen.facts) := by
  intro m g m' g' hf hm
  refine ⟨pooled m, ?_, ?_⟩
  · refine (θ_run Cert.Kernel4Ideal.defs _ _).mono (fun r h c => ⟨?_, h.2 c⟩)
      (θ_run_and (Cert.Kernel4Ideal.Gen.run_main m g) (Cert.Kernel4Ideal.Gen.unchanged m g))
    exact ((h.1 c).1 4).trans (kernel_pooled m hf c)
  · refine (θ_run Cert.Reference4Ideal.defs _ _).mono (fun r h c => ⟨?_, (h c).2⟩) (Cert.Reference4Ideal.Value.run m' g')
    refine (h c).1.trans ((Cert.Reference4Ideal.Read.val_main_v77_eq m' c).trans ?_)
    obtain ⟨e0, e1, e2⟩ := hm c
    exact congr (congr (congrArg (Cert.Reference4Ideal.Read.val_main_v77 (F := Ideal)) e0) e1) e2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m g _ => Cert.Kernel.Scores.frame m g, fun m g _ => Cert.KernelIdeal.Scores.frame m g,
  fun m g _ => (θ_run Cert.ReferenceIdeal.defs _ _).mono (fun r h => ⟨fun c => (h c).2, sem_eq_zero_of_no_sems rfl r.2⟩)
    (Cert.ReferenceIdeal.Value.run m g),
  fun m g _ => Cert.Kernel2.Gen.frame m g,
  fun m g _ => Cert.Kernel2Ideal.Gen.frame m g,
  fun m g _ => (θ_run Cert.Reference2Ideal.defs _ _).mono (fun r h => ⟨fun c => (h c).2, sem_eq_zero_of_no_sems rfl r.2⟩)
    (Cert.Reference2Ideal.Value.run m g),
  fun m g _ => Cert.Kernel3.Gen.frame m g,
  fun m g _ => Cert.Kernel3Ideal.Gen.frame m g,
  fun m g _ => (θ_run Cert.Reference3Ideal.defs _ _).mono (fun r h => ⟨fun c => (h c).2.2.2.2.2.2, sem_eq_zero_of_no_sems rfl r.2⟩)
    (Cert.Reference3Ideal.Value.run m g),
  fun m g _ => Cert.Kernel4.Gen.frame m g,
  fun m g _ => Cert.Kernel4Ideal.Gen.frame m g,
  fun m g _ => Cert.Kernel4Ideal.Gen.frame m g,
  fun m g _ => (θ_run Cert.Reference4Ideal.defs _ _).mono (fun r h => ⟨fun c => (h c).2, sem_eq_zero_of_no_sems rfl r.2⟩)
    (Cert.Reference4Ideal.Value.run m g),
  fun m g _ => (θ_run Cert.Reference4Ideal.defs _ _).mono (fun r h => ⟨fun c => (h c).2, sem_eq_zero_of_no_sems rfl r.2⟩)
    (Cert.Reference4Ideal.Value.run m g),
  IdealRules.named_const.statement Cert.KernelIdeal.κ "inv_sqrt_2048" .f32 0x3CB504F3#32 _ rfl, algebraic,
  IdealRules.named_const.statement Cert.Kernel2Ideal.κ "inv_sqrt_128" .f32 0x3DB504F3#32 _ rfl, algebraic_tail,
  trivial, algebraic_head, trivial, algebraic_pool⟩

end Cert.Proof

end
